-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16384x512 : Shape := ⟨2, ![16384, 512]⟩
abbrev S32x16 : Shape := ⟨2, ![32, 16]⟩
abbrev S4x64 : Shape := ⟨2, ![4, 64]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x64 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  main_v23

def fn {F : FTy → Type} [FloatOps F] (main_arg0 : FVec F S16384x512 .f32) (main_arg1 : FVec F S16384x512 .f32) (main_arg2 : FVec F S16384x512 .f32) (main_arg3 : FVec F S32x16 .f32) (main_arg4 : FVec F S4x64 .f32) (main_arg5 : FVec F S128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S16384x512 : Shape := ⟨2, ![16384, 512]⟩
abbrev S32x16 : Shape := ⟨2, ![32, 16]⟩
abbrev S4x64 : Shape := ⟨2, ![4, 64]⟩
abbrev S128 : Shape := ⟨1, ![128]⟩
abbrev S_ : Shape := ⟨0, ![]⟩
abbrev S512x16384 : Shape := ⟨2, ![512, 16384]⟩
abbrev S4x128x16384 : Shape := ⟨3, ![4, 128, 16384]⟩
abbrev S4x16x16384 : Shape := ⟨3, ![4, 16, 16384]⟩
abbrev S4x144x16384 : Shape := ⟨3, ![4, 144, 16384]⟩
abbrev S576x16384 : Shape := ⟨2, ![576, 16384]⟩
abbrev S6x1024x2048 : Shape := ⟨3, ![6, 1024, 2048]⟩
abbrev S32x4 : Shape := ⟨2, ![32, 4]⟩
abbrev S6x1024x2048x1 : Shape := ⟨4, ![6, 1024, 2048, 1]⟩
abbrev S6x1024x2048x4 : Shape := ⟨4, ![6, 1024, 2048, 4]⟩
abbrev S6x4x1024x2048 : Shape := ⟨4, ![6, 4, 1024, 2048]⟩
abbrev S1x128 : Shape := ⟨2, ![1, 128]⟩
abbrev S128x2048 : Shape := ⟨2, ![128, 2048]⟩
abbrev S1024x128 : Shape := ⟨2, ![1024, 128]⟩
abbrev S144x1024 : Shape := ⟨2, ![144, 1024]⟩
abbrev S1x1x1024x2048 : Shape := ⟨4, ![1, 1, 1024, 2048]⟩
abbrev S2048x128 : Shape := ⟨2, ![2048, 128]⟩
abbrev S2x1x2048 : Shape := ⟨3, ![2, 1, 2048]⟩
abbrev S2x144x2048 : Shape := ⟨3, ![2, 144, 2048]⟩
abbrev S2x1024x768 : Shape := ⟨3, ![2, 1024, 768]⟩
abbrev S1x1x1x1 : Shape := ⟨4, ![1, 1, 1, 1]⟩
abbrev S1x1 : Shape := ⟨2, ![1, 1]⟩
abbrev S128x256 : Shape := ⟨2, ![128, 256]⟩
abbrev S1024x256 : Shape := ⟨2, ![1024, 256]⟩
abbrev S1x1024x256 : Shape := ⟨3, ![1, 1024, 256]⟩
abbrev S128x768 : Shape := ⟨2, ![128, 768]⟩
abbrev S1024x768 : Shape := ⟨2, ![1024, 768]⟩
abbrev S1x1024x768 : Shape := ⟨3, ![1, 1024, 768]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S144x256 : Shape := ⟨2, ![144, 256]⟩
abbrev S1x1x768 : Shape := ⟨3, ![1, 1, 768]⟩
abbrev S1x768 : Shape := ⟨2, ![1, 768]⟩
abbrev S768 : Shape := ⟨1, ![768]⟩
abbrev S1x144x768 : Shape := ⟨3, ![1, 144, 768]⟩
abbrev S144x768 : Shape := ⟨2, ![144, 768]⟩
abbrev S1x1x1024x256 : Shape := ⟨4, ![1, 1, 1024, 256]⟩
abbrev S1x1x1024x768 : Shape := ⟨4, ![1, 1, 1024, 768]⟩
abbrev S1x64 : Shape := ⟨2, ![1, 64]⟩
abbrev S1 : Shape := ⟨1, ![1]⟩
abbrev S1x144x2048 : Shape := ⟨3, ![1, 144, 2048]⟩
abbrev S144x2048 : Shape := ⟨2, ![144, 2048]⟩
abbrev S1x2048 : Shape := ⟨2, ![1, 2048]⟩
abbrev S2048 : Shape := ⟨1, ![2048]⟩

abbrev nBuf : Space → Nat
  | .hbm => 90
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S32x16, .f32⟩
  | .hbm, ⟨4, _⟩ => ⟨S4x64, .f32⟩
  | .hbm, ⟨5, _⟩ => ⟨S128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S512x16384, .f32⟩
  | .hbm, ⟨15, _⟩ => ⟨S512x16384, .bf16⟩
  | .hbm, ⟨16, _⟩ => ⟨S16384x512, .bf16⟩
  | .hbm, ⟨17, _⟩ => ⟨S512x16384, .f32⟩
  | .hbm, ⟨18, _⟩ => ⟨S4x128x16384, .f32⟩
  | .hbm, ⟨19, _⟩ => ⟨S_, .f32⟩
  | .hbm, ⟨20, _⟩ => ⟨S4x16x16384, .f32⟩
  | .hbm, ⟨21, _⟩ => ⟨S4x144x16384, .f32⟩
  | .hbm, ⟨22, _⟩ => ⟨S576x16384, .f32⟩
  | .hbm, ⟨23, _⟩ => ⟨S576x16384, .bf16⟩
  | .hbm, ⟨24, _⟩ => ⟨S6x1024x2048, .i32⟩
  | .hbm, ⟨25, _⟩ => ⟨S_, .i32⟩
  | .hbm, ⟨26, _⟩ => ⟨S6x1024x2048, .i32⟩
  | .hbm, ⟨27, _⟩ => ⟨S6x1024x2048, .i32⟩
  | .hbm, ⟨28, _⟩ => ⟨S_, .i32⟩
  | .hbm, ⟨29, _⟩ => ⟨S6x1024x2048, .i32⟩
  | .hbm, ⟨30, _⟩ => ⟨S6x1024x2048, .i32⟩
  | .hbm, ⟨31, _⟩ => ⟨S6x1024x2048, .i32⟩
  | .hbm, ⟨32, _⟩ => ⟨S6x1024x2048, .i32⟩
  | .hbm, ⟨33, _⟩ => ⟨S6x1024x2048, .i32⟩
  | .hbm, ⟨34, _⟩ => ⟨S6x1024x2048, .i32⟩
  | .hbm, ⟨35, _⟩ => ⟨S32x4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32x4, .f32⟩
  | .hbm, ⟨41, _⟩ => ⟨S32x4, .f32⟩
  | .hbm, ⟨42, _⟩ => ⟨S_, .i32⟩
  | .hbm, ⟨43, _⟩ => ⟨S6x1024x2048, .i32⟩
  | .hbm, ⟨44, _⟩ => ⟨S6x1024x2048, .i1⟩
  | .hbm, ⟨45, _⟩ => ⟨S_, .i32⟩
  | .hbm, ⟨46, _⟩ => ⟨S_, .i32⟩
  | .hbm, ⟨47, _⟩ => ⟨S6x1024x2048, .i32⟩
  | .hbm, ⟨48, _⟩ => ⟨S6x1024x2048, .i32⟩
  | .hbm, ⟨49, _⟩ => ⟨S6x1024x2048, .i32⟩
  | .hbm, ⟨50, _⟩ => ⟨S6x1024x2048, .i32⟩
  | .hbm, ⟨51, _⟩ => ⟨S_, .i32⟩
  | .hbm, ⟨52, _⟩ => ⟨S6x1024x2048, .i32⟩
  | .hbm, ⟨53, _⟩ => ⟨S6x1024x2048, .i32⟩
  | .hbm, ⟨54, _⟩ => ⟨S6x1024x2048, .f32⟩
  | .hbm, ⟨55, _⟩ => ⟨S_, .f32⟩
  | .hbm, ⟨56, _⟩ => ⟨S6x1024x2048, .f32⟩
  | .hbm, ⟨57, _⟩ => ⟨S6x1024x2048, .f32⟩
  | .hbm, ⟨58, _⟩ => ⟨S6x1024x2048, .f32⟩
  | .hbm, ⟨59, _⟩ => ⟨S_, .f32⟩
  | .hbm, ⟨60, _⟩ => ⟨S6x1024x2048, .f32⟩
  | .hbm, ⟨61, _⟩ => ⟨S6x1024x2048, .f32⟩
  | .hbm, ⟨62, _⟩ => ⟨S_, .f32⟩
  | .hbm, ⟨63, _⟩ => ⟨S6x1024x2048, .f32⟩
  | .hbm, ⟨64, _⟩ => ⟨S6x1024x2048, .f32⟩
  | .hbm, ⟨65, _⟩ => ⟨S6x1024x2048, .i32⟩
  | .hbm, ⟨66, _⟩ => ⟨S_, .i32⟩
  | .hbm, ⟨67, _⟩ => ⟨S6x1024x2048, .i32⟩
  | .hbm, ⟨68, _⟩ => ⟨S6x1024x2048, .i32⟩
  | .hbm, ⟨69, _⟩ => ⟨S_, .i32⟩
  | .hbm, ⟨70, _⟩ => ⟨S6x1024x2048, .i32⟩
  | .hbm, ⟨71, _⟩ => ⟨S6x1024x2048, .i32⟩
  | .hbm, ⟨72, _⟩ => ⟨S_, .i32⟩
  | .hbm, ⟨73, _⟩ => ⟨S6x1024x2048, .i32⟩
  | .hbm, ⟨74, _⟩ => ⟨S6x1024x2048, .i1⟩
  | .hbm, ⟨75, _⟩ => ⟨S6x1024x2048, .i32⟩
  | .hbm, ⟨76, _⟩ => ⟨S6x1024x2048, .i32⟩
  | .hbm, ⟨77, _⟩ => ⟨S6x1024x2048, .i32⟩
  | .hbm, ⟨78, _⟩ => ⟨S_, .i32⟩
  | .hbm, ⟨79, _⟩ => ⟨S6x1024x2048, .i32⟩
  | .hbm, ⟨80, _⟩ => ⟨S6x1024x2048, .i1⟩
  | .hbm, ⟨81, _⟩ => ⟨S_, .i32⟩
  | .hbm, ⟨82, _⟩ => ⟨S6x1024x2048, .i32⟩
  | .hbm, ⟨83, _⟩ => ⟨S6x1024x2048, .i32⟩
  | .hbm, ⟨84, _⟩ => ⟨S6x1024x2048, .i32⟩
  | .hbm, ⟨85, _⟩ => ⟨S6x1024x2048x1, .i32⟩
  | .hbm, ⟨86, _⟩ => ⟨S6x1024x2048x4, .f32⟩
  | .hbm, ⟨87, _⟩ => ⟨S6x4x1024x2048, .f32⟩
  | .hbm, ⟨88, _⟩ => ⟨S1x128, .f32⟩
  | .hbm, ⟨89, _⟩ => ⟨S16384x512, .f32⟩
  | .local _ .vmem, ⟨0, _⟩ => ⟨S128x2048, .bf16⟩
  | .local _ .vmem, ⟨1, _⟩ => ⟨S128x2048, .bf16⟩
  | .local _ .vmem, ⟨2, _⟩ => ⟨S1024x128, .bf16⟩
  | .local _ .vmem, ⟨3, _⟩ => ⟨S1024x128, .bf16⟩
  | .local _ .vmem, ⟨4, _⟩ => ⟨S144x1024, .bf16⟩
  | .local _ .vmem, ⟨5, _⟩ => ⟨S144x1024, .bf16⟩
  | .local _ .vmem, ⟨6, _⟩ => ⟨S1x1x1024x2048, .f32⟩
  | .local _ .vmem, ⟨7, _⟩ => ⟨S1x1x1024x2048, .f32⟩
  | .local _ .vmem, ⟨8, _⟩ => ⟨S4x64, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S128x2048, .bf16⟩
  | .local _ .vmem, ⟨13, _⟩ => ⟨S128x2048, .bf16⟩
  | .local _ .vmem, ⟨14, _⟩ => ⟨S2x1x2048, .f32⟩
  | .local _ .vmem, ⟨15, _⟩ => ⟨S2x144x2048, .f32⟩
  | .local _ .vmem, ⟨16, _⟩ => ⟨S2x1024x768, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_c_8 : Ref sig .tc := ⟨.hbm, 46, rfl⟩
abbrev main_call0_v0 : Ref sig .tc := ⟨.hbm, 47, rfl⟩
abbrev main_call0_v1 : Ref sig .tc := ⟨.hbm, 48, rfl⟩
abbrev main_v30 : Ref sig .tc := ⟨.hbm, 49, rfl⟩
abbrev main_v31 : Ref sig .tc := ⟨.hbm, 50, rfl⟩
abbrev main_c_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_13 : Ref sig .tc := ⟨.hbm, 66, rfl⟩
abbrev main_v43 : Ref sig .tc := ⟨.hbm, 67, rfl⟩
abbrev main_v44 : Ref sig .tc := ⟨.hbm, 68, rfl⟩
abbrev main_c_14 : Ref sig .tc := ⟨.hbm, 69, rfl⟩
abbrev main_v45 : Ref sig .tc := ⟨.hbm, 70, rfl⟩
abbrev main_v46 : Ref sig .tc := ⟨.hbm, 71, rfl⟩
abbrev main_c_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_16 : Ref sig .tc := ⟨.hbm, 78, rfl⟩
abbrev main_v52 : Ref sig .tc := ⟨.hbm, 79, rfl⟩
abbrev main_v53 : Ref sig .tc := ⟨.hbm, 80, rfl⟩
abbrev main_c_17 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 8, 16], ![false, false, false]⟩

def k0_cond4 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.subi arg2 v0
  let c_m2_i32 : BitVec 32 := 4294967294#32
  let c3_i32 : BitVec 32 := 3#32
  let v2 : BitVec 32 := Scalar.maxsi c_m2_i32 v1
  let v3 : BitVec 32 := Scalar.minsi c3_i32 v2
  let c_m2_i32_0 : BitVec 32 := 4294967294#32
  let v4 : BitVec 32 := Scalar.subi v3 c_m2_i32_0
  let c0_i32 : BitVec 32 := 0#32
  let c0_i32_1 : BitVec 32 := 0#32
  let c0_i32_2 : BitVec 32 := 0#32
  ![v4.toNat, arg0.toNat, c0_i32.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S16384x512 : Shape := ⟨2, ![16384, 512]⟩
abbrev S32x16 : Shape := ⟨2, ![32, 16]⟩
abbrev S4x64 : Shape := ⟨2, ![4, 64]⟩
abbrev S128 : Shape := ⟨1, ![128]⟩
abbrev S16384x4x2x64 : Shape := ⟨4, ![16384, 4, 2, 64]⟩
abbrev S16384x4x128 : Shape := ⟨3, ![16384, 4, 128]⟩
abbrev S1x64 : Shape := ⟨2, ![1, 64]⟩
abbrev S64 : Shape := ⟨1, ![64]⟩
abbrev S_ : Shape := ⟨0, ![]⟩
abbrev S16384 : Shape := ⟨1, ![16384]⟩
abbrev S4x2x16384x16384 : Shape := ⟨4, ![4, 2, 16384, 16384]⟩
abbrev S32x4 : Shape := ⟨2, ![32, 4]⟩
abbrev S1x16384 : Shape := ⟨2, ![1, 16384]⟩
abbrev S16384x1 : Shape := ⟨2, ![16384, 1]⟩
abbrev S16384x16384 : Shape := ⟨2, ![16384, 16384]⟩
abbrev S16384x16384x1 : Shape := ⟨3, ![16384, 16384, 1]⟩
abbrev S16384x16384x4 : Shape := ⟨3, ![16384, 16384, 4]⟩
abbrev S4x16384x16384 : Shape := ⟨3, ![4, 16384, 16384]⟩
abbrev S4x1x16384x16384 : Shape := ⟨4, ![4, 1, 16384, 16384]⟩
abbrev S4x2x16384 : Shape := ⟨3, ![4, 2, 16384]⟩
abbrev S4x2x16384x1 : Shape := ⟨4, ![4, 2, 16384, 1]⟩
abbrev S4x128x16384 : Shape := ⟨3, ![4, 128, 16384]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 131
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x16, .f32⟩
  | 4 => ⟨S4x64, .f32⟩
  | 5 => ⟨S128, .f32⟩
  | 6 => ⟨S16384x4x2x64, .f32⟩
  | 7 => ⟨S16384x4x2x64, .f32⟩
  | 8 => ⟨S16384x4x128, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S16384, .i32⟩
  | 29 => ⟨S4x2x16384x16384, .f32⟩
  | 30 => ⟨S_, .f32⟩
  | 31 => ⟨S4x2x16384x16384, .f32⟩
  | 32 => ⟨S4x2x16384x16384, .f32⟩
  | 33 => ⟨S32x4, .f32⟩
  | 34 => ⟨S1x16384, .i32⟩
  | 35 => ⟨S16384x1, .i32⟩
  | 36 => ⟨S16384x16384, .i32⟩
  | 37 => ⟨S16384x16384, .i32⟩
  | 38 => ⟨S16384x16384, .i32⟩
  | 39 => ⟨S_, .i32⟩
  | 40 => ⟨S16384x16384, .i32⟩
  | 41 => ⟨S16384x16384, .i1⟩
  | 42 => ⟨S_, .i32⟩
  | 43 => ⟨S_, .i32⟩
  | 44 => ⟨S16384x16384, .i32⟩
  | 45 => ⟨S16384x16384, .i32⟩
  | 46 => ⟨S16384x16384, .i32⟩
  | 47 => ⟨S16384x16384, .i32⟩
  | 48 => ⟨S_, .i32⟩
  | 49 => ⟨S16384x16384, .i32⟩
  | 50 => ⟨S16384x16384, .i32⟩
  | 51 => ⟨S16384x16384, .f32⟩
  | 52 => ⟨S_, .f32⟩
  | 53 => ⟨S16384x16384, .f32⟩
  | 54 => ⟨S16384x16384, .f32⟩
  | 55 => ⟨S16384x16384, .f32⟩
  | 56 => ⟨S_, .f32⟩
  | 57 => ⟨S16384x16384, .f32⟩
  | 58 => ⟨S16384x16384, .f32⟩
  | 59 => ⟨S_, .f32⟩
  | 60 => ⟨S16384x16384, .f32⟩
  | 61 => ⟨S16384x16384, .f32⟩
  | 62 => ⟨S16384x16384, .i32⟩
  | 63 => ⟨S_, .i32⟩
  | 64 => ⟨S16384x16384, .i32⟩
  | 65 => ⟨S16384x16384, .i32⟩
  | 66 => ⟨S_, .i32⟩
  | 67 => ⟨S16384x16384, .i32⟩
  | 68 => ⟨S16384x16384, .i32⟩
  | 69 => ⟨S_, .i32⟩
  | 70 => ⟨S16384x16384, .i32⟩
  | 71 => ⟨S16384x16384, .i1⟩
  | 72 => ⟨S16384x16384, .i32⟩
  | 73 => ⟨S16384x16384, .i32⟩
  | 74 => ⟨S16384x16384, .i32⟩
  | 75 => ⟨S_, .i32⟩
  | 76 => ⟨S16384x16384, .i32⟩
  | 77 => ⟨S16384x16384, .i1⟩
  | 78 => ⟨S_, .i32⟩
  | 79 => ⟨S16384x16384, .i32⟩
  | 80 => ⟨S16384x16384, .i32⟩
  | 81 => ⟨S16384x16384, .i32⟩
  | 82 => ⟨S16384x16384x1, .i32⟩
  | 83 => ⟨S16384x16384x4, .f32⟩
  | 84 => ⟨S4x16384x16384, .f32⟩
  | 85 => ⟨S4x1x16384x16384, .f32⟩
  | 86 => ⟨S4x2x16384x16384, .f32⟩
  | 87 => ⟨S4x2x16384x16384, .f32⟩
  | 88 => ⟨S_, .f32⟩
  | 89 => ⟨S4x2x16384, .f32⟩
  | 90 => ⟨S_, .f32⟩
  | 91 => ⟨S4x2x16384, .f32⟩
  | 92 => ⟨S4x2x16384, .f32⟩
  | 93 => ⟨S4x2x16384x1, .f32⟩
  | 94 => ⟨S4x2x16384x16384, .f32⟩
  | 95 => ⟨S4x2x16384x16384, .f32⟩
  | 96 => ⟨S4x2x16384x16384, .f32⟩
  | 97 => ⟨S_, .f32⟩
  | 98 => ⟨S4x2x16384, .f32⟩
  | 99 => ⟨S4x2x16384x1, .f32⟩
  | 100 => ⟨S4x2x16384x16384, .f32⟩
  | 101 => ⟨S4x2x16384x16384, .f32⟩
  | 102 => ⟨S4x1x16384x16384, .f32⟩
  | 103 => ⟨S4x16384x16384, .f32⟩
  | 104 => ⟨S4x1x16384x16384, .f32⟩
  | 105 => ⟨S4x16384x16384, .f32⟩
  | 106 => ⟨S4x16384x16384, .f32⟩
  | 107 => ⟨S4x16384x16384, .f32⟩
  | 108 => ⟨S4x16384x16384, .f32⟩
  | 109 => ⟨S4x128x16384, .f32⟩
  | 110 => ⟨S16384x4x128, .f32⟩
  | 111 => ⟨S16384x4x128, .f32⟩
  | 112 => ⟨S_, .f32⟩
  | 113 => ⟨S16384x4, .f32⟩
  | 114 => ⟨S16384x4x1, .f32⟩
  | 115 => ⟨S_, .f32⟩
  | 116 => ⟨S16384x4x1, .f32⟩
  | 117 => ⟨S16384x4x1, .f32⟩
  | 118 => ⟨S_, .f32⟩
  | 119 => ⟨S16384x4x1, .f32⟩
  | 120 => ⟨S16384x4x1, .f32⟩
  | 121 => ⟨S16384x4x1, .f32⟩
  | 122 => ⟨S16384x4x128, .f32⟩
  | 123 => ⟨S16384x4x128, .f32⟩
  | 124 => ⟨S1x1x128, .f32⟩
  | 125 => ⟨S16384x4x128, .f32⟩
  | 126 => ⟨S16384x4x128, .f32⟩
  | 127 => ⟨S_, .f32⟩
  | _ => ⟨S16384x512, .f32⟩

abbrev hbmTy0_1 (i : Nat) : BufTy := match i % 128 with
  | 0 => ⟨S16384x4x128, .f32⟩
  | 1 => ⟨S16384x4x128, .f32⟩
  | 2 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_c_4 : Ref sig .tc := ⟨.hbm, 43, rfl⟩
abbrev main_call0_v0 : Ref sig .tc := ⟨.hbm, 44, rfl⟩
abbrev main_call0_v1 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x2048 : Shape := ⟨2, ![1024, 2048]⟩
abbrev S2048x1024 : Shape := ⟨2, ![2048, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x11040 : Shape := ⟨2, ![1024, 11040]⟩
abbrev S1024x1536 : Shape := ⟨2, ![1024, 1536]⟩
abbrev S1024x2304 : Shape := ⟨2, ![1024, 2304]⟩
abbrev S1024x256 : Shape := ⟨2, ![1024, 256]⟩
abbrev S1024x512 : Shape := ⟨2, ![1024, 512]⟩
abbrev S1024x32 : Shape := ⟨2, ![1024, 32]⟩
abbrev S_ : Shape := ⟨0, ![]⟩
abbrev S1024x224 : Shape := ⟨2, ![1024, 224]⟩
abbrev S1024x4096 : Shape := ⟨2, ![1024, 4096]⟩
abbrev S1024x11264 : Shape := ⟨2, ![1024, 11264]⟩
abbrev S1x1024 : Shape := ⟨2, ![1, 1024]⟩
abbrev S16384x11264 : Shape := ⟨2, ![16384, 11264]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 18
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x11040, .f32⟩
  | .hbm, ⟨3, _⟩ => ⟨S1024x1536, .f32⟩
  | .hbm, ⟨4, _⟩ => ⟨S1024x2304, .f32⟩
  | .hbm, ⟨5, _⟩ => ⟨S1024x256, .f32⟩
  | .hbm, ⟨6, _⟩ => ⟨S1024x1536, .f32⟩
  | .hbm, ⟨7, _⟩ => ⟨S1024x512, .f32⟩
  | .hbm, ⟨8, _⟩ => ⟨S1024x512, .f32⟩
  | .hbm, ⟨9, _⟩ => ⟨S1024x256, .f32⟩
  | .hbm, ⟨10, _⟩ => ⟨S1024x32, .f32⟩
  | .hbm, ⟨11, _⟩ => ⟨S_, .f32⟩
  | .hbm, ⟨12, _⟩ => ⟨S1024x224, .f32⟩
  | .hbm, ⟨13, _⟩ => ⟨S1024x4096, .f32⟩
  | .hbm, ⟨14, _⟩ => ⟨S1024x11264, .f32⟩
  | .hbm, ⟨15, _⟩ => ⟨S1024x11264, .bf16⟩
  | .hbm, ⟨16, _⟩ => ⟨S1x1024, .f32⟩
  | .hbm, ⟨17, _⟩ => ⟨S16384x11264, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x1024 : Shape := ⟨2, ![16384, 1024]⟩
abbrev S1024 : Shape := ⟨1, ![1024]⟩
abbrev S1024x11040 : Shape := ⟨2, ![1024, 11040]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x11040 : Shape := ⟨2, ![16384, 11040]⟩
abbrev S16384x256 : Shape := ⟨2, ![16384, 256]⟩
abbrev S16384x512 : Shape := ⟨2, ![16384, 512]⟩
abbrev S16384x32 : Shape := ⟨2, ![16384, 32]⟩
abbrev S16384x2304 : Shape := ⟨2, ![16384, 2304]⟩
abbrev S16384x1536 : Shape := ⟨2, ![16384, 1536]⟩
abbrev S16384x4096 : Shape := ⟨2, ![16384, 4096]⟩
abbrev S16384x224 : Shape := ⟨2, ![16384, 224]⟩
abbrev S16384x11264 : Shape := ⟨2, ![16384, 11264]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x11040, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x11040, .f32⟩
  | .hbm, ⟨20, _⟩ => ⟨S16384x256, .f32⟩
  | .hbm, ⟨21, _⟩ => ⟨S16384x256, .f32⟩
  | .hbm, ⟨22, _⟩ => ⟨S16384x512, .f32⟩
  | .hbm, ⟨23, _⟩ => ⟨S16384x512, .f32⟩
  | .hbm, ⟨24, _⟩ => ⟨S16384x32, .f32⟩
  | .hbm, ⟨25, _⟩ => ⟨S16384x2304, .f32⟩
  | .hbm, ⟨26, _⟩ => ⟨S16384x1536, .f32⟩
  | .hbm, ⟨27, _⟩ => ⟨S16384x1536, .f32⟩
  | .hbm, ⟨28, _⟩ => ⟨S16384x4096, .f32⟩
  | .hbm, ⟨29, _⟩ => ⟨S_, .f32⟩
  | .hbm, ⟨30, _⟩ => ⟨S16384x224, .f32⟩
  | .hbm, ⟨31, _⟩ => ⟨S16384x11264, .f32⟩
  | .hbm, ⟨32, _⟩ => ⟨S16384x11264, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Gather.lean ====
module

public import proofs.«01_k».proof.Proof.Gen.KernelIdeal.Frame
public import proofs.«01_k».proof.Proof.Gen.ReferenceIdeal.Read
public import Idealize.ShloMosaic.Lib.Pipeline.ValueKit

@[expose] public section

/-! # Reading the bias table

Both programs look a row of the table up by a word: the row read is the word as an integer, moved into 0 … 31. -/

open Idealize Idealize.ShloMosaic

namespace Attn

/-- The row of the table a word names. -/
def rowOf (w : BitVec 32) : Fin 32 := ⟨min w.toInt.toNat 31, by omega⟩

/-- The kernel's look-up. -/
theorem gather_kernel (x : Cert.KernelIdeal.S32x4.Idx → EReal) (idx : IVec Cert.KernelIdeal.S6x1024x2048x1 32)
    (o : Fin 6) (b : Fin 1024) (q : Fin 2048) (h : Fin 4) :
    Host.gather Cert.KernelIdeal.gather_S32x4_S6x1024x2048x1_S6x1024x2048x4_3_0_n_n_0_3_14 x idx (ix4 o b q h)
      = x (ix2 (rowOf (idx (ix4 o b q 0))) h) := by
  unfold Host.gather
  congr 1
  funext a
  refine Fin.ext ?_
  have h01 : a = 0 ∨ a = 1 := by
    match a with
    | ⟨0, _⟩ => exact Or.inl rfl
    | ⟨1, _⟩ => exact Or.inr rfl
  set G := Cert.KernelIdeal.gather_S32x4_S6x1024x2048x1_S6x1024x2048x4_3_0_n_n_0_3_14 with hG
  show G.start _ idx a + G.batchCoord _ a + G.offCoord _ a = _
  rcases h01 with rfl | rfl
  · rw [GatherDims.batchCoord_eq_zero _ _ _ (fun h => by simp [hG, Cert.KernelIdeal.gather_S32x4_S6x1024x2048x1_S6x1024x2048x4_3_0_n_n_0_3_14] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix4 o b q h) ⟨List.idxOf (0 : Fin 2) G.startIndexMap,
        List.idxOf_lt_length_iff.2 (List.mem_singleton.mpr rfl)⟩ = ix4 o b q 0 := by
      funext e; refine Fin.ext ?_
      match e with
      | ⟨0, _⟩ => rfl
      | ⟨1, _⟩ => rfl
      | ⟨2, _⟩ => rfl
      | ⟨3, _⟩ => rfl
    rw [hsi]
    rfl
  · rw [GatherDims.batchCoord_eq_zero _ _ _ (fun h => by simp [hG, Cert.KernelIdeal.gather_S32x4_S6x1024x2048x1_S6x1024x2048x4_3_0_n_n_0_3_14] at h)]
    have hs : G.start (ix4 o b q h) idx 1 = 0 := by
      unfold GatherDims.start
      rw [dif_neg (by decide)]
    rw [hs]
    simp only [Nat.zero_add]
    rfl

/-- The reference's look-up. -/
theorem gather_reference (x : Cert.ReferenceIdeal.S32x4.Idx → EReal) (idx : IVec Cert.ReferenceIdeal.S16384x16384x1 32)
    (p r : Fin 16384) (h : Fin 4) :
    Host.gather Cert.ReferenceIdeal.gather_S32x4_S16384x16384x1_S16384x16384x4_2_0_n_n_0_2_14 x idx (ix3 p r h)
      = x (ix2 (rowOf (idx (ix3 p r 0))) h) := by
  unfold Host.gather
  congr 1
  funext a
  refine Fin.ext ?_
  have h01 : a = 0 ∨ a = 1 := by
    match a with
    | ⟨0, _⟩ => exact Or.inl rfl
    | ⟨1, _⟩ => exact Or.inr rfl
  set G := Cert.ReferenceIdeal.gather_S32x4_S16384x16384x1_S16384x16384x4_2_0_n_n_0_2_14 with hG
  show G.start _ idx a + G.batchCoord _ a + G.offCoord _ a = _
  rcases h01 with rfl | rfl
  · rw [GatherDims.batchCoord_eq_zero _ _ _ (fun h => by simp [hG, Cert.ReferenceIdeal.gather_S32x4_S16384x16384x1_S16384x16384x4_2_0_n_n_0_2_14] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix3 p r h) ⟨List.idxOf (0 : Fin 2) G.startIndexMap,
        List.idxOf_lt_length_iff.2 (List.mem_singleton.mpr rfl)⟩ = ix3 p r 0 := by
      funext e; refine Fin.ext ?_
      match e with
      | ⟨0, _⟩ => rfl
      | ⟨1, _⟩ => rfl
      | ⟨2, _⟩ => rfl
    rw [hsi]
    rfl
  · rw [GatherDims.batchCoord_eq_zero _ _ _ (fun h => by simp [hG, Cert.ReferenceIdeal.gather_S32x4_S16384x16384x1_S16384x16384x4_2_0_n_n_0_2_14] at h)]
    have hs : G.start (ix3 p r h) idx 1 = 0 := by
      unfold GatherDims.start
      rw [dif_neg (by decide)]
    rw [hs]
    simp only [Nat.zero_add]
    rfl

end Attn
-- ==== Proof.Slot.lean ====
module

public import proofs.«01_k».proof.Proof.Gather

@[expose] public section

/-! # Which row of the bias table a distance names

The same words in both programs: sixteen rows for each side, eight of them exact, the others by the logarithm. -/

open Idealize Idealize.ShloMosaic

noncomputable section

namespace Attn

/-- The logarithmic row of a distance, before it is cut off at fifteen. -/
def farRow (n : BitVec 32) : BitVec 32 :=
  FloatOps.fptosi (F := Idealize.ShloMosaic.Ideal) (φ := .f32) 32
    (Ideal.div (Ideal.log (Ideal.div (FloatOps.sitofp (F := Idealize.ShloMosaic.Ideal) .f32 (IntOp.maxsi n 1#32))
      (Ideal.ofBits .f32 1090519040#32))) (Ideal.ofBits .f32 1083917269#32) * Ideal.ofBits .f32 1090519040#32)

/-- The row within its side of the table. -/
def sideRow (n : BitVec 32) : BitVec 32 :=
  Scalar.select (IntOp.cmpi .slt n 8#32) n (IntOp.minsi (IntOp.addi 8#32 (farRow n)) 15#32)

/-- The row, from the signed distance. -/
def slotRaw (w : BitVec 32) : BitVec 32 :=
  IntOp.addi (Scalar.select (IntOp.cmpi .sgt w 0#32) 16#32 0#32) (sideRow (IntOp.absi w))

/-- The row, a negative one counted from the end. -/
def slot (w : BitVec 32) : BitVec 32 :=
  Scalar.select (IntOp.cmpi .slt (slotRaw w) 0#32) (IntOp.addi (slotRaw w) 32#32) (slotRaw w)

end Attn
-- ==== Proof.RefBias.lean ====
module

public import proofs.«01_k».proof.Proof.Slot

@[expose] public section

/-! # The reference's bias -/

open Idealize Idealize.ShloMosaic
open Cert.ReferenceIdeal Cert.ReferenceIdeal.Read

noncomputable section

namespace Attn

/-- The signed distance of key `p` from row `r`. -/
def refRel (p r : Fin 16384) : BitVec 32 := IntOp.subi (BitVec.ofNat 32 p.val) (BitVec.ofNat 32 r.val)

theorem ref_rel (r p : Fin 16384) : val_main_v28 (F := Idealize.ShloMosaic.Ideal) (ix2 r p) = refRel p r := by
  rw [val_main_v28_apply, val_main_v26_apply, val_main_v27_apply, val_main_v24_apply, val_main_v25_apply]
  rfl

theorem ref_slot (r p : Fin 16384) :
    val_main_v58 (F := Idealize.ShloMosaic.Ideal) (ix3 r p 0) = slot (refRel p r) := by
  rw [← ref_rel r p]
  rfl

theorem ref_bias (x3 : (⟨S32x16, .f32⟩ : BufTy).Contents (Elt Idealize.ShloMosaic.Ideal)) (r p : Fin 16384) (h : Fin 4) :
    val_main_v59 (F := Idealize.ShloMosaic.Ideal) x3 (ix3 r p h)
      = x3 (ix2 (rowOf (slot (refRel p r))) (⟨12 + h.val, by omega⟩ : Fin 16)) := by
  unfold val_main_v59
  rw [gather_reference, ref_slot, val_main_v23_apply]
  refine congrArg x3 (funext fun a => ?_)
  match a with
  | ⟨0, _⟩ => rfl
  | ⟨1, _⟩ => rfl

end Attn
-- ==== Proof.FarSlot.lean ====
module

public import proofs.«01_k».proof.Proof.Slot
public import Mathlib.Analysis.SpecialFunctions.Log.Basic
public import Mathlib.Analysis.Complex.Exponential

@[expose] public section

/-! # Far distances share one row

From 1025 on, either way, the row is the last of its side. -/

open Idealize Idealize.ShloMosaic

noncomputable section

namespace Attn

theorem ofBits_eight : Ideal.ofBits .f32 1090519040#32 = ((8 : ℝ) : EReal) := by
  simp [Ideal.ofBits, Ideal.ieee]
  norm_num
  rw [← EReal.coe_mul]
  norm_num

theorem ofBits_log : Ideal.ofBits .f32 1083917269#32 = ((10175445 / 2097152 : ℝ) : EReal) := by
  simp [Ideal.ofBits, Ideal.ieee]
  norm_num
  rw [← EReal.coe_mul]
  norm_num

theorem log_bound {x : ℝ} (h : 1025 / 8 ≤ x) : (10175445 / 2097152 : ℝ) ≤ Real.log x := by
  have hx : 0 < x := lt_of_lt_of_le (by norm_num) h
  rw [Real.le_log_iff_exp_le hx]
  refine le_trans ?_ h
  have h1 := Real.exp_bound' (x := 10175445 / 16777216) (by norm_num) (by norm_num) (n := 8) (by norm_num)
  have h2 : Real.exp (10175445 / 2097152) = Real.exp (10175445 / 16777216) ^ 8 := by
    rw [← Real.exp_nat_mul]; norm_num
  rw [h2]
  refine le_trans (pow_le_pow_left₀ (Real.exp_pos _).le h1 8) ?_
  norm_num [Finset.sum_range_succ, Nat.factorial]

theorem toInt_ofNat_small {n : ℕ} (h : n < 2 ^ 31) : (BitVec.ofNat 32 n).toInt = n := by
  rw [BitVec.toInt_eq_toNat_of_lt] <;> simp only [BitVec.toNat_ofNat] <;> omega

/-- The logarithmic row is at least eight from 1025 on. -/
theorem farRow_ge (n : ℕ) (h1 : 1025 ≤ n) (h2 : n < 2 ^ 20) :
    ∃ k : ℕ, 8 ≤ k ∧ k < 2 ^ 28 ∧ farRow (BitVec.ofNat 32 n) = BitVec.ofNat 32 k := by
  have hm : IntOp.maxsi (BitVec.ofNat 32 n) 1#32 = BitVec.ofNat 32 n := by
    unfold IntOp.maxsi
    rw [if_pos]
    rw [BitVec.slt_iff_toInt_lt, toInt_ofNat_small (n := n) (by omega)]
    show (1 : ℤ) < n
    omega
  have hr : (1025 : ℝ) ≤ n := by exact_mod_cast h1
  have hr2 : (n : ℝ) < 2 ^ 20 := by exact_mod_cast h2
  have hl := log_bound (x := (n : ℝ) / 8) (by linarith)
  have hu : Real.log ((n : ℝ) / 8) ≤ (n : ℝ) / 8 - 1 := Real.log_le_sub_one_of_pos (by linarith)
  have hlo : (8 : ℝ) ≤ Real.log ((n : ℝ) / 8) * (1 / (10175445 / 2097152)) * 8 := by
    rw [one_div_div]; norm_num at hl ⊢; linarith
  have hhi : Real.log ((n : ℝ) / 8) * (1 / (10175445 / 2097152)) * 8 < 2 ^ 28 := by
    have h3 : Real.log ((n : ℝ) / 8) < 2 ^ 17 := by linarith
    rw [one_div_div]; norm_num at h3 ⊢; linarith
  obtain ⟨k, hk⟩ : ∃ k : ℕ, ⌊Real.log ((n : ℝ) / 8) * (1 / (10175445 / 2097152)) * 8⌋ = (k : ℤ) :=
    Int.eq_ofNat_of_zero_le (Int.floor_nonneg.2 (by linarith))
  have k1 : (8 : ℤ) ≤ k := by rw [← hk]; exact Int.le_floor.2 (by exact_mod_cast hlo)
  have k2 : (k : ℤ) < 2 ^ 28 := by rw [← hk]; exact Int.floor_lt.2 (by exact_mod_cast hhi)
  refine ⟨k, by omega, by omega, ?_⟩
  unfold farRow
  rw [ofBits_eight, ofBits_log, hm]
  have hs : FloatOps.sitofp (F := Idealize.ShloMosaic.Ideal) .f32 (BitVec.ofNat 32 n) = ((n : ℝ) : EReal) := by
    show (((BitVec.ofNat 32 n).toInt : ℝ) : EReal) = _
    rw [toInt_ofNat_small (by omega), Int.cast_natCast]
  rw [hs, Ideal.div_coe (y := 8) (by norm_num), ← EReal.coe_mul, mul_one_div, Ideal.log_coe,
    if_neg (not_le.2 (by positivity)), Ideal.div_coe (by norm_num), ← EReal.coe_mul, ← EReal.coe_mul]
  show Ideal.fptosi 32 _ = _
  rw [Ideal.fptosi, Ideal.toIntClamped_coe, if_pos (by linarith), hk]
  rw [show max (-((2 ^ (32 - 1) : ℕ) : ℤ)) (min (((2 ^ (32 - 1) : ℕ) : ℤ) - 1) (k : ℤ)) = (k : ℤ) by omega]
  exact BitVec.ofInt_natCast ..

/-- On its side of the table it is the last. -/
theorem sideRow_far (n : ℕ) (h1 : 1025 ≤ n) (h2 : n < 2 ^ 20) : sideRow (BitVec.ofNat 32 n) = 15#32 := by
  obtain ⟨k, k1, k2, hk⟩ := farRow_ge n h1 h2
  unfold sideRow
  rw [hk]
  have h : IntOp.cmpi .slt (BitVec.ofNat 32 n) 8#32 = 0#1 := by
    show BitVec.ofBool (BitVec.slt _ _) = _
    rw [show BitVec.slt (BitVec.ofNat 32 n) 8#32 = false by
      rw [Bool.eq_false_iff, ne_eq, BitVec.slt_iff_toInt_lt, toInt_ofNat_small (n := n) (by omega)]
      show ¬ (n : ℤ) < 8
      omega]
    rfl
  rw [h]
  show IntOp.minsi _ _ = _
  unfold IntOp.minsi
  rw [if_neg]
  rw [BitVec.slt_iff_toInt_lt]
  show ¬ (8#32 + BitVec.ofNat 32 k).toInt < 15
  rw [show (8#32 : BitVec 32) + BitVec.ofNat 32 k = BitVec.ofNat 32 (8 + k) from (BitVec.ofNat_add ..).symm,
    toInt_ofNat_small (by omega)]
  omega

theorem slot_pos (w : BitVec 32) (h1 : 1025 ≤ w.toInt) (h2 : w.toInt < 2 ^ 20) : slot w = 31#32 := by
  obtain ⟨n, hn⟩ := Int.eq_ofNat_of_zero_le (show 0 ≤ w.toInt by omega)
  have hw : w = BitVec.ofNat 32 n := BitVec.eq_of_toInt_eq (by rw [toInt_ofNat_small (by omega), hn])
  have ha : IntOp.absi w = BitVec.ofNat 32 n := by
    unfold IntOp.absi
    rw [if_neg (by rw [BitVec.msb_eq_toInt]; simp; omega), hw]
  have hp : IntOp.cmpi .sgt w 0#32 = 1#1 := by
    show BitVec.ofBool (BitVec.slt _ _) = _
    rw [show BitVec.slt 0#32 w = true by
      rw [BitVec.slt_iff_toInt_lt]
      show (0 : ℤ) < _
      omega]
    rfl
  have hr : slotRaw w = 31#32 := by
    unfold slotRaw
    rw [hp, ha, sideRow_far n (by omega) (by omega)]
    rfl
  unfold slot
  rw [hr]
  rfl

theorem slot_neg (w : BitVec 32) (h1 : w.toInt ≤ -1025) (h2 : -2 ^ 20 < w.toInt) : slot w = 15#32 := by
  obtain ⟨n, hn⟩ := Int.eq_ofNat_of_zero_le (show 0 ≤ -w.toInt by omega)
  have ha : IntOp.absi w = BitVec.ofNat 32 n := by
    unfold IntOp.absi
    rw [if_pos (by rw [BitVec.msb_eq_toInt]; simp; omega)]
    refine BitVec.eq_of_toInt_eq ?_
    rw [toInt_ofNat_small (by omega), BitVec.toInt_neg, hn]
    unfold Int.bmod
    dsimp only
    split <;> omega
  have hp : IntOp.cmpi .sgt w 0#32 = 0#1 := by
    show BitVec.ofBool (BitVec.slt _ _) = _
    rw [show BitVec.slt 0#32 w = false by
      rw [Bool.eq_false_iff, ne_eq, BitVec.slt_iff_toInt_lt]
      show ¬ (0 : ℤ) < _
      omega]
    rfl
  have hr : slotRaw w = 15#32 := by
    unfold slotRaw
    rw [hp, ha, sideRow_far n (by omega) (by omega)]
    rfl
  unfold slot
  rw [hr]
  rfl

end Attn
-- ==== Proof.Step.lean ====
module

public import proofs.«01_k».proof.Proof.Gen.KernelIdeal.Frame
public import Idealize.ShloMosaic.Lib.Pipeline.ValueKit
public import Idealize.ShloMosaic.Lib.Pipeline.ReadBack

@[expose] public section

/-! # One block of keys, as the kernel takes it

The scores of a block and what a grid point leaves in the running maximum and in the accumulator, as functions of the
blocks it reads and of what the scratch held, whatever the widths the columns are cut into. -/

set_option maxRecDepth 16384

open Idealize Idealize.ShloMosaic

noncomputable section

namespace Attn

/-- The queries a map uses: the first or the second masked copy. -/
def pick (q0 q1 : (⟨2, ![128, 2048]⟩ : Shape).Idx → EReal) (a : Fin 2) : (⟨2, ![128, 2048]⟩ : Shape).Idx → EReal :=
  if (a : ℕ) = 0 then q0 else q1

/-- The scores of a block whose bias is a tile. -/
def nearScore (k : (⟨2, ![1024, 128]⟩ : Shape).Idx → EReal) (t : (⟨4, ![1, 1, 1024, 2048]⟩ : Shape).Idx → EReal)
    (q0 q1 : (⟨2, ![128, 2048]⟩ : Shape).Idx → EReal) (a : Fin 2) (q : Fin 2048) (b : Fin 1024) : EReal :=
  (∑ d : Fin 128, k (ix2 b d) * pick q0 q1 a (ix2 d q)) + t (ix4 0 0 b q)

/-- The scores of a block whose bias is a constant, without the constant. -/
def farScore (k : (⟨2, ![1024, 128]⟩ : Shape).Idx → EReal)
    (q0 q1 : (⟨2, ![128, 2048]⟩ : Shape).Idx → EReal) (a : Fin 2) (q : Fin 2048) (b : Fin 1024) : EReal :=
  ∑ d : Fin 128, k (ix2 b d) * pick q0 q1 a (ix2 d q)

/-- The scores of a block, near the diagonal or away from it, without the block's constant. -/
def scores (near : Bool) (k : (⟨2, ![1024, 128]⟩ : Shape).Idx → EReal) (t : (⟨4, ![1, 1, 1024, 2048]⟩ : Shape).Idx → EReal)
    (q0 q1 : (⟨2, ![128, 2048]⟩ : Shape).Idx → EReal) : Fin 2 → Fin 2048 → Fin 1024 → EReal :=
  match near with
  | true => nearScore k t q0 q1
  | false => farScore k q0 q1

/-- The block's constant: none near the diagonal, the corner of the tile away from it. -/
def shift (near : Bool) (t : (⟨4, ![1, 1, 1024, 2048]⟩ : Shape).Idx → EReal) : EReal :=
  match near with
  | true => 0
  | false => t (ix4 0 0 0 0)

/-- The new maximum: of the old one and the block's scores with the constant. -/
def newMax (s : Fin 2 → Fin 2048 → Fin 1024 → EReal) (kc : EReal) (m : (⟨3, ![2, 1, 2048]⟩ : Shape).Idx → EReal)
    (a : Fin 2) (q : Fin 2048) : EReal :=
  max (m (ix3 a 0 q)) ((Finset.univ : Finset (Fin 1024)).fold max ⊥ (s a q) + kc)

/-- The new accumulator. -/
def newAcc (s : Fin 2 → Fin 2048 → Fin 1024 → EReal) (kc : EReal) (v : (⟨2, ![144, 1024]⟩ : Shape).Idx → EReal)
    (m : (⟨3, ![2, 1, 2048]⟩ : Shape).Idx → EReal) (ac : (⟨3, ![2, 144, 2048]⟩ : Shape).Idx → EReal)
    (a : Fin 2) (e : Fin 144) (q : Fin 2048) : EReal :=
  Ideal.exp2 (m (ix3 a 0 q) - newMax s kc m a q) * ac (ix3 a e q)
    + ∑ b : Fin 1024, v (ix2 e b) * Ideal.exp2 (s a q b - (newMax s kc m a q - kc))

end Attn

end
-- ==== Proof.Points.lean ====
module

public import proofs.«01_k».proof.Proof.Step

@[expose] public section

/-! # The grid points and what the buffers hold after them -/

set_option maxRecDepth 16384
set_option maxHeartbeats 2000000

open Idealize Idealize.ShloMosaic
open Cert.KernelIdeal Cert.KernelIdeal.Gen

noncomputable section

namespace Attn

variable (m : (ℓ : Loc nD τ sig) → Buf (Elt Ideal) ℓ) (c : Dev nD)

/-- The blocks near the diagonal, by the number of the grid point. -/
abbrev Near (n : ℕ) : Prop := n % 16 ≤ 2 * (n / 16 % 8) + 2 ∧ 2 * (n / 16 % 8) ≤ n % 16 + 1

/-- What the buffers hold after point `n`. -/
abbrev outs (t : Fin cfg0.N) := outsAt0 m c t.val t.isLt

/-- What the buffers hold before point `t`, when it is not the first of its run. -/
abbrev prev (t : Fin cfg0.N) := outsAt0 m c (t.val - 1) (Nat.lt_of_le_of_lt (Nat.sub_le _ _) t.isLt)

end Attn

end
-- ==== Proof.Entry.lean ====
module

public import proofs.«01_k».proof.Proof.Points
public import proofs.«01_k».proof.Proof.Slot
public import Idealize.ShloMosaic.Lib.Claim
public import Idealize.ShloMosaic.Lib.StableHlo.ReadAt

@[expose] public section

/-! # What the launch finds in its arrays

The arrays the host has prepared, each read at one entry as the arguments it came from. -/

set_option maxRecDepth 16384
set_option maxHeartbeats 2000000

open Idealize Idealize.ShloMosaic Idealize.ShloMosaic.TcCoe
open Cert.KernelIdeal Cert.KernelIdeal.Gen

noncomputable section

namespace Attn

variable (m : (ℓ : Loc nD τ sig) → Buf (Elt Ideal) ℓ) (c : Dev nD)

/-- The distance a tile stands for at key `b` and row `q`. -/
def tileRel (o : Fin 6) (b : Fin 1024) (q : Fin 2048) : BitVec 32 :=
  IntOp.subi (IntOp.addi (IntOp.muli (IntOp.addi (BitVec.ofNat 32 o.val) 4294967294#32) 1024#32) (BitVec.ofNat 32 b.val))
    (BitVec.ofNat 32 q.val)

/-- The arguments, entry by entry. -/
def argQ (q : Fin 16384) (d : Fin 512) : EReal := m ((c : Thread nD τ).loc main_arg0) (ix2 q d)
def argK (q : Fin 16384) (d : Fin 512) : EReal := m ((c : Thread nD τ).loc main_arg1) (ix2 q d)
def argV (q : Fin 16384) (d : Fin 512) : EReal := m ((c : Thread nD τ).loc main_arg2) (ix2 q d)
def argB (r : Fin 32) (h : Fin 16) : EReal := m ((c : Thread nD τ).loc main_arg3) (ix2 r h)

theorem host_q (d : Fin 512) (q : Fin 16384) : V m c main_v6 (ix2 d q)
    = argQ m c q d
      * (Ideal.ofBits .f32 1040187392#32 * Ideal.div 1 (Ideal.log (Ideal.ofBits .f32 1073741824#32))) := by
  simp only [V, hostOps0, hostOps0_1, hostOps0_2, hostOps0_3, hostOps0_4, List.flatten_cons, List.flatten_nil, List.append_nil, List.cons_append, List.nil_append]
  after_reads_at
  rfl

theorem host_k (d : Fin 512) (q : Fin 16384) : V m c main_v7 (ix2 q d)
    = argK m c q d := by
  simp only [V, hostOps0, hostOps0_1, hostOps0_2, hostOps0_3, hostOps0_4, List.flatten_cons, List.flatten_nil, List.append_nil, List.cons_append, List.nil_append]
  after_reads_at
  try rfl

theorem host_v (h : Fin 4) (e : Fin 144) (q : Fin 16384) : V m c main_v13 (ix2 (⟨144 * h.val + e.val, by omega⟩ : Fin 576) q)
    = if he : e.val < 128 then argV m c q (⟨128 * h.val + e.val, by omega⟩ : Fin 512) else 1 := by
  have h1 : (144 * h.val + e.val) % 144 = e.val := by omega
  have h2 : (144 * h.val + e.val) / 144 = h.val := by omega
  split
  case isTrue he =>
    simp only [V, hostOps0, hostOps0_1, hostOps0_2, hostOps0_3, hostOps0_4, List.flatten_cons, List.flatten_nil, List.append_nil, List.cons_append, List.nil_append]
    after_reads_at
    rw [dif_pos (by omega)]
    simp only [h1, h2]
    after_reads_at
    exact congrArg (argV m c q) (Fin.ext (by show h.val * 128 + e.val = 128 * h.val + e.val; omega))
  case isFalse he =>
    simp only [V, hostOps0, hostOps0_1, hostOps0_2, hostOps0_3, hostOps0_4, List.flatten_cons, List.flatten_nil, List.append_nil, List.cons_append, List.nil_append]
    after_reads_at
    rw [dif_neg (by omega)]
    try after_reads_at
    try rfl

theorem host_g (e : Fin 128) : V m c main_v60 (ix2 0 e) = m ((c : Thread nD τ).loc main_arg5) (ix1 e) := by
  simp only [V, hostOps0, hostOps0_1, hostOps0_2, hostOps0_3, hostOps0_4, List.flatten_cons, List.flatten_nil, List.append_nil, List.cons_append, List.nil_append]
  after_reads_at
  try rfl

end Attn
-- ==== Proof.Words.lean ====
module

public import proofs.«01_k».proof.Proof.FarSlot
public import proofs.«01_k».proof.Proof.RefBias
public import proofs.«01_k».proof.Proof.Entry

@[expose] public section

/-! # The tiles of the bias stand for the distances

Near the diagonal a tile holds the distances of its block; away from it every distance of the block, and the corner of
its tile, name the same row. -/

open Idealize Idealize.ShloMosaic

namespace Attn

theorem rel_near (o : Fin 6) (b : Fin 1024) (q : Fin 2048) (p r : Fin 16384) (i j : ℕ) (hp : p.val = 1024 * j + b.val)
    (hr : r.val = 2048 * i + q.val) (ho : o.val + 2 * i = j + 2) : tileRel o b q = refRel p r := by
  unfold tileRel refRel IntOp.subi IntOp.addi IntOp.muli
  have h1 : (BitVec.ofNat 32 o.val + 4294967294#32) * 1024#32 + 1024#32 * BitVec.ofNat 32 (2 * i)
      = 1024#32 * BitVec.ofNat 32 j := by
    rw [show (4294967294#32 : BitVec 32) = - BitVec.ofNat 32 2 from rfl]
    have : BitVec.ofNat 32 j = BitVec.ofNat 32 o.val + BitVec.ofNat 32 (2 * i) - BitVec.ofNat 32 2 := by
      rw [← BitVec.ofNat_add, ho, BitVec.ofNat_add]
      grind
    rw [this]
    grind
  rw [hp, hr, BitVec.ofNat_add, BitVec.ofNat_add, show 2048 * i = 1024 * (2 * i) by ring, BitVec.ofNat_mul, BitVec.ofNat_mul]
  grind

theorem toInt_refRel (p r : Fin 16384) : (refRel p r).toInt = (p.val : ℤ) - r.val := by
  unfold refRel IntOp.subi
  rw [BitVec.toInt_eq_toNat_cond]
  simp only [BitVec.toNat_sub, BitVec.toNat_ofNat]
  split <;> omega

theorem slot_corner_low : slot (tileRel 0 0 0) = 15#32 := slot_neg _ (by rw [show tileRel 0 0 0 = BitVec.ofNat 32 4294965248 from rfl]; decide) (by rw [show tileRel 0 0 0 = BitVec.ofNat 32 4294965248 from rfl]; decide)

theorem slot_corner_high : slot (tileRel 5 0 0) = 31#32 := slot_pos _ (by rw [show tileRel 5 0 0 = BitVec.ofNat 32 3072 from rfl]; decide) (by rw [show tileRel 5 0 0 = BitVec.ofNat 32 3072 from rfl]; decide)

theorem slot_far (o : Fin 6) (b : Fin 1024) (q : Fin 2048) (p r : Fin 16384) (i j : ℕ) (hp : p.val = 1024 * j + b.val)
    (hr : r.val = 2048 * i + q.val) (ho : o.val = 0 ∧ j + 2 ≤ 2 * i ∨ o.val = 5 ∧ 2 * i + 3 ≤ j) :
    slot (tileRel o 0 0) = slot (refRel p r) := by
  rcases ho with ⟨h, h'⟩ | ⟨h, h'⟩
  · obtain rfl : o = 0 := Fin.ext h
    rw [slot_corner_low, slot_neg] <;> rw [toInt_refRel] <;> omega
  · obtain rfl : o = 5 := Fin.ext h
    rw [slot_corner_high, slot_pos] <;> rw [toInt_refRel] <;> omega

end Attn
-- ==== Proof.Pieces.lean ====
module

public import proofs.«01_k».proof.Proof.Step

@[expose] public section

/-! # The stores of one block of keys

Eight chains, each over a cut of the query columns and one of the two maps: what each stores into the accumulator and into
the running maximum, from the block's keys `k`, values `v` and bias tile `t`, the two masked copies `q0`, `q1` of the
queries, and the maximum `m` and accumulator `s` the block found. -/

open Idealize Idealize.ShloMosaic
open Cert.KernelIdeal Cert.KernelIdeal.Gen

noncomputable section

namespace Attn

/-- The bit pattern of minus infinity reads as `⊥`. -/
theorem ofBits_neg_inf : Ideal.ofBits FTy.f32 0xFF800000#32 = (⊥ : EReal) := by simp [Ideal.ofBits, Ideal.ieee]

/-- The two maps. -/
theorem fin_two (a : Fin 2) : ((a : ℕ) = 0 ∧ a = 0) ∨ ((a : ℕ) = 1 ∧ a = 1) := by
  match a with
  | ⟨0, _⟩ => exact Or.inl ⟨rfl, rfl⟩
  | ⟨1, _⟩ => exact Or.inr ⟨rfl, rfl⟩

/-- Where the newest stores cover an index, what was stored before them is not seen. -/
theorem canon_append_of_cover {s : Shape} {e : EltTy} (L L' : List (View.Piece (Elt Ideal) s e)) (y : s.Idx)
    (h : ∃ p ∈ L, y ∈ p.1.set) : View.canon (L ++ L') y = View.canon L y := by
  induction L with
  | nil => obtain ⟨p, hp, _⟩ := h; exact absurd hp List.not_mem_nil
  | cons p L ih =>
    by_cases hy : y ∈ p.1.set
    · obtain ⟨x, rfl⟩ : ∃ x, p.1.emb x = y := p.1.exists_idx_of_mem hy
      exact (View.canon_cons_emb p.1 p.2 (L ++ L') x).trans (View.canon_cons_emb p.1 p.2 L x).symm
    · rw [List.cons_append, View.canon_cons_of_not_mem p _ hy, View.canon_cons_of_not_mem p _ hy]
      obtain ⟨r, hr, hm⟩ := h
      rcases List.mem_cons.mp hr with rfl | hr
      · exact absurd hm hy
      · exact ih ⟨r, hr, hm⟩

/-- A block near the diagonal: what it stores into the running maximum, newest first. -/
def nearMaxs (k : Vec Ideal S1024x128 .bf16) (t : Vec Ideal S1x1x1024x2048 .f32) (q0 q1 : Vec Ideal S128x2048 .bf16)
    (m : Vec Ideal S2x1x2048 .f32) : List (View.Piece (Elt Ideal) S2x1x2048 .f32) :=
  [⟨Rect.unit ![1, 0, 0] ![1, 1, 256] inb_S2x1x2048_S1x1x256_1_0_0, k0_pay9 (k0_pay129 (k0_pay120 (k0_pay75 k) (View.ld q1 (Rect.unit ![0, 0] ![128, 256] inb_S128x2048_S128x256_0_0))
            (View.ld t (Rect.unit ![0, 0, 0, 0] ![1, 1, 1024, 256] inb_S1x1x1024x2048_S1x1x1024x256_0_0_0_0)))
          (View.ld m (Rect.unit ![1, 0, 0] ![1, 1, 256] inb_S2x1x2048_S1x1x256_1_0_0)))⟩,
    ⟨Rect.unit ![1, 0, 256] ![1, 1, 768] inb_S2x1x2048_S1x1x768_1_0_256, k0_pay126 (k0_pay123
          (k0_pay112 (k0_pay75 k) (View.ld q1 (Rect.unit ![0, 256] ![128, 768] inb_S128x2048_S128x768_0_256))
            (View.ld t (Rect.unit ![0, 0, 0, 256] ![1, 1, 1024, 768] inb_S1x1x1024x2048_S1x1x1024x768_0_0_0_256)))
          (View.ld m (Rect.unit ![1, 0, 256] ![1, 1, 768] inb_S2x1x2048_S1x1x768_1_0_256)))⟩,
    ⟨Rect.unit ![1, 0, 1024] ![1, 1, 768] inb_S2x1x2048_S1x1x768_1_0_1024, k0_pay119 (k0_pay115
          (k0_pay105 (k0_pay75 k) (View.ld q1 (Rect.unit ![0, 1024] ![128, 768] inb_S128x2048_S128x768_0_1024))
            (View.ld t (Rect.unit ![0, 0, 0, 1024] ![1, 1, 1024, 768] inb_S1x1x1024x2048_S1x1x1024x768_0_0_0_1024)))
          (View.ld m (Rect.unit ![1, 0, 1024] ![1, 1, 768] inb_S2x1x2048_S1x1x768_1_0_1024)))⟩,
    ⟨Rect.unit ![1, 0, 1792] ![1, 1, 256] inb_S2x1x2048_S1x1x256_1_0_1792, k0_pay111 (k0_pay108
          (k0_pay99 (k0_pay98 (k0_pay75 k) (View.ld q1 (Rect.unit ![0, 1792] ![128, 256] inb_S128x2048_S128x256_0_1792)))
            (View.ld t (Rect.unit ![0, 0, 0, 1792] ![1, 1, 1024, 256] inb_S1x1x1024x2048_S1x1x1024x256_0_0_0_1792)))
          (View.ld m (Rect.unit ![1, 0, 1792] ![1, 1, 256] inb_S2x1x2048_S1x1x256_1_0_1792)))⟩,
    ⟨Rect.unit ![0, 0, 1792] ![1, 1, 256] inb_S2x1x2048_S1x1x256_0_0_1792, k0_pay104 (k0_pay102 (k0_pay92
            (k0_pay91 (k0_pay75 k) (View.ld q0 (Rect.unit ![0, 1792] ![128, 256] inb_S128x2048_S128x256_0_1792))
              (View.ld t (Rect.unit ![0, 0, 0, 1792] ![1, 1, 1024, 256] inb_S1x1x1024x2048_S1x1x1024x256_0_0_0_1792))))
          (View.ld m (Rect.unit ![0, 0, 1792] ![1, 1, 256] inb_S2x1x2048_S1x1x256_0_0_1792)))⟩,
    ⟨Rect.unit ![0, 0, 1024] ![1, 1, 768] inb_S2x1x2048_S1x1x768_0_0_1024, k0_pay97 (k0_pay85 (k0_pay75 k) (View.ld q0 (Rect.unit ![0, 1024] ![128, 768] inb_S128x2048_S128x768_0_1024))
          (View.ld t (Rect.unit ![0, 0, 0, 1024] ![1, 1, 1024, 768] inb_S1x1x1024x2048_S1x1x1024x768_0_0_0_1024)))
        (View.ld m (Rect.unit ![0, 0, 1024] ![1, 1, 768] inb_S2x1x2048_S1x1x768_0_0_1024))⟩,
    ⟨Rect.unit ![0, 0, 256] ![1, 1, 768] inb_S2x1x2048_S1x1x768_0_0_256, k0_pay90 (k0_pay86 (k0_pay78 k (View.ld q0 (Rect.unit ![0, 256] ![128, 768] inb_S128x2048_S128x768_0_256))
            (View.ld t (Rect.unit ![0, 0, 0, 256] ![1, 1, 1024, 768] inb_S1x1x1024x2048_S1x1x1024x768_0_0_0_256))))
        (View.ld m (Rect.unit ![0, 0, 256] ![1, 1, 768] inb_S2x1x2048_S1x1x768_0_0_256))⟩,
    ⟨Rect.unit ![0, 0, 0] ![1, 1, 256] inb_S2x1x2048_S1x1x256_0_0_0, k0_pay84 (k0_pay80 (View.ld m (Rect.unit ![0, 0, 0] ![1, 1, 256] inb_S2x1x2048_S1x1x256_0_0_0))) (k0_pay81
          (k0_pay77 k (View.ld q0 (Rect.unit ![0, 0] ![128, 256] inb_S128x2048_S128x256_0_0))
            (View.ld t (Rect.unit ![0, 0, 0, 0] ![1, 1, 1024, 256] inb_S1x1x1024x2048_S1x1x1024x256_0_0_0_0)))) (FloatOps.ofBits FTy.f32 0#32)⟩]

/-- A block near the diagonal: what it stores into the accumulator, newest first. -/
def nearAccs (k : Vec Ideal S1024x128 .bf16) (v : Vec Ideal S144x1024 .bf16) (t : Vec Ideal S1x1x1024x2048 .f32)
    (q0 q1 : Vec Ideal S128x2048 .bf16) (m : Vec Ideal S2x1x2048 .f32) (s : Vec Ideal S2x144x2048 .f32) : List (View.Piece (Elt Ideal) S2x144x2048 .f32) :=
  [⟨Rect.unit ![1, 0, 0] ![1, 144, 256] inb_S2x144x2048_S1x144x256_1_0_0, k0_pay8 (k0_pay76 v) (k0_pay130
          (k0_pay120 (k0_pay75 k) (View.ld q1 (Rect.unit ![0, 0] ![128, 256] inb_S128x2048_S128x256_0_0))
            (View.ld t (Rect.unit ![0, 0, 0, 0] ![1, 1, 1024, 256] inb_S1x1x1024x2048_S1x1x1024x256_0_0_0_0)))
          (View.ld m (Rect.unit ![1, 0, 0] ![1, 1, 256] inb_S2x1x2048_S1x1x256_1_0_0))) (k0_pay131
          (k0_pay120 (k0_pay75 k) (View.ld q1 (Rect.unit ![0, 0] ![128, 256] inb_S128x2048_S128x256_0_0))
            (View.ld t (Rect.unit ![0, 0, 0, 0] ![1, 1, 1024, 256] inb_S1x1x1024x2048_S1x1x1024x256_0_0_0_0)))
          (View.ld m (Rect.unit ![1, 0, 0] ![1, 1, 256] inb_S2x1x2048_S1x1x256_1_0_0))) (View.ld s (Rect.unit ![1, 0, 0] ![1, 144, 256] inb_S2x144x2048_S1x144x256_1_0_0))⟩,
    ⟨Rect.unit ![1, 0, 256] ![1, 144, 768] inb_S2x144x2048_S1x144x768_1_0_256, k0_pay125 (k0_pay76 v) (k0_pay121
          (k0_pay112 (k0_pay75 k) (View.ld q1 (Rect.unit ![0, 256] ![128, 768] inb_S128x2048_S128x768_0_256))
            (View.ld t (Rect.unit ![0, 0, 0, 256] ![1, 1, 1024, 768] inb_S1x1x1024x2048_S1x1x1024x768_0_0_0_256)))) (k0_pay123
          (k0_pay112 (k0_pay75 k) (View.ld q1 (Rect.unit ![0, 256] ![128, 768] inb_S128x2048_S128x768_0_256))
            (View.ld t (Rect.unit ![0, 0, 0, 256] ![1, 1, 1024, 768] inb_S1x1x1024x2048_S1x1x1024x768_0_0_0_256)))
          (View.ld m (Rect.unit ![1, 0, 256] ![1, 1, 768] inb_S2x1x2048_S1x1x768_1_0_256))) (k0_pay124
          (k0_pay112 (k0_pay75 k) (View.ld q1 (Rect.unit ![0, 256] ![128, 768] inb_S128x2048_S128x768_0_256))
            (View.ld t (Rect.unit ![0, 0, 0, 256] ![1, 1, 1024, 768] inb_S1x1x1024x2048_S1x1x1024x768_0_0_0_256)))
          (View.ld m (Rect.unit ![1, 0, 256] ![1, 1, 768] inb_S2x1x2048_S1x1x768_1_0_256)))
        (FloatOps.ofBits FTy.f32 0#32) (View.ld s (Rect.unit ![1, 0, 256] ![1, 144, 768] inb_S2x144x2048_S1x144x768_1_0_256))⟩,
    ⟨Rect.unit ![1, 0, 1024] ![1, 144, 768] inb_S2x144x2048_S1x144x768_1_0_1024, k0_pay118 (k0_pay76 v) (k0_pay116
          (k0_pay105 (k0_pay75 k) (View.ld q1 (Rect.unit ![0, 1024] ![128, 768] inb_S128x2048_S128x768_0_1024))
            (View.ld t (Rect.unit ![0, 0, 0, 1024] ![1, 1, 1024, 768] inb_S1x1x1024x2048_S1x1x1024x768_0_0_0_1024)))
          (View.ld m (Rect.unit ![1, 0, 1024] ![1, 1, 768] inb_S2x1x2048_S1x1x768_1_0_1024))) (k0_pay117
          (k0_pay105 (k0_pay75 k) (View.ld q1 (Rect.unit ![0, 1024] ![128, 768] inb_S128x2048_S128x768_0_1024))
            (View.ld t (Rect.unit ![0, 0, 0, 1024] ![1, 1, 1024, 768] inb_S1x1x1024x2048_S1x1x1024x768_0_0_0_1024)))
          (View.ld m (Rect.unit ![1, 0, 1024] ![1, 1, 768] inb_S2x1x2048_S1x1x768_1_0_1024))) (View.ld s (Rect.unit ![1, 0, 1024] ![1, 144, 768] inb_S2x144x2048_S1x144x768_1_0_1024))⟩,
    ⟨Rect.unit ![1, 0, 1792] ![1, 144, 256] inb_S2x144x2048_S1x144x256_1_0_1792, k0_pay110 (k0_pay109 (k0_pay76 v)
          (k0_pay99 (k0_pay98 (k0_pay75 k) (View.ld q1 (Rect.unit ![0, 1792] ![128, 256] inb_S128x2048_S128x256_0_1792)))
            (View.ld t (Rect.unit ![0, 0, 0, 1792] ![1, 1, 1024, 256] inb_S1x1x1024x2048_S1x1x1024x256_0_0_0_1792)))
          (View.ld m (Rect.unit ![1, 0, 1792] ![1, 1, 256] inb_S2x1x2048_S1x1x256_1_0_1792)) (View.ld s (Rect.unit ![1, 0, 1792] ![1, 144, 256] inb_S2x144x2048_S1x144x256_1_0_1792)))⟩,
    ⟨Rect.unit ![0, 0, 1792] ![1, 144, 256] inb_S2x144x2048_S1x144x256_0_0_1792, k0_pay103 (k0_pay76 v) (k0_pay92
          (k0_pay91 (k0_pay75 k) (View.ld q0 (Rect.unit ![0, 1792] ![128, 256] inb_S128x2048_S128x256_0_1792))
            (View.ld t (Rect.unit ![0, 0, 0, 1792] ![1, 1, 1024, 256] inb_S1x1x1024x2048_S1x1x1024x256_0_0_0_1792))))
        (View.ld m (Rect.unit ![0, 0, 1792] ![1, 1, 256] inb_S2x1x2048_S1x1x256_0_0_1792)) (View.ld s (Rect.unit ![0, 0, 1792] ![1, 144, 256] inb_S2x144x2048_S1x144x256_0_0_1792))⟩,
    ⟨Rect.unit ![0, 0, 1024] ![1, 144, 768] inb_S2x144x2048_S1x144x768_0_0_1024, k0_pay96 (k0_pay76 v)
        (k0_pay85 (k0_pay75 k) (View.ld q0 (Rect.unit ![0, 1024] ![128, 768] inb_S128x2048_S128x768_0_1024))
          (View.ld t (Rect.unit ![0, 0, 0, 1024] ![1, 1, 1024, 768] inb_S1x1x1024x2048_S1x1x1024x768_0_0_0_1024)))
        (View.ld m (Rect.unit ![0, 0, 1024] ![1, 1, 768] inb_S2x1x2048_S1x1x768_0_0_1024)) (View.ld s (Rect.unit ![0, 0, 1024] ![1, 144, 768] inb_S2x144x2048_S1x144x768_0_0_1024))⟩,
    ⟨Rect.unit ![0, 0, 256] ![1, 144, 768] inb_S2x144x2048_S1x144x768_0_0_256, k0_pay89 (k0_pay76 v) (k0_pay86
          (k0_pay78 k (View.ld q0 (Rect.unit ![0, 256] ![128, 768] inb_S128x2048_S128x768_0_256))
            (View.ld t (Rect.unit ![0, 0, 0, 256] ![1, 1, 1024, 768] inb_S1x1x1024x2048_S1x1x1024x768_0_0_0_256))))
        (View.ld m (Rect.unit ![0, 0, 256] ![1, 1, 768] inb_S2x1x2048_S1x1x768_0_0_256)) (View.ld s (Rect.unit ![0, 0, 256] ![1, 144, 768] inb_S2x144x2048_S1x144x768_0_0_256))⟩,
    ⟨Rect.unit ![0, 0, 0] ![1, 144, 256] inb_S2x144x2048_S1x144x256_0_0_0, k0_pay83 (k0_pay76 v) (k0_pay79
          (k0_pay77 k (View.ld q0 (Rect.unit ![0, 0] ![128, 256] inb_S128x2048_S128x256_0_0))
            (View.ld t (Rect.unit ![0, 0, 0, 0] ![1, 1, 1024, 256] inb_S1x1x1024x2048_S1x1x1024x256_0_0_0_0))))
        (k0_pay80 (View.ld m (Rect.unit ![0, 0, 0] ![1, 1, 256] inb_S2x1x2048_S1x1x256_0_0_0))) (k0_pay81
          (k0_pay77 k (View.ld q0 (Rect.unit ![0, 0] ![128, 256] inb_S128x2048_S128x256_0_0))
            (View.ld t (Rect.unit ![0, 0, 0, 0] ![1, 1, 1024, 256] inb_S1x1x1024x2048_S1x1x1024x256_0_0_0_0))))
        (FloatOps.ofBits FTy.f32 0#32) (View.ld s (Rect.unit ![0, 0, 0] ![1, 144, 256] inb_S2x144x2048_S1x144x256_0_0_0))⟩]

/-- A block far from the diagonal: what it stores into the running maximum, newest first. -/
def farMaxs (k : Vec Ideal S1024x128 .bf16) (t : Vec Ideal S1x1x1024x2048 .f32) (q0 q1 : Vec Ideal S128x2048 .bf16)
    (m : Vec Ideal S2x1x2048 .f32) : List (View.Piece (Elt Ideal) S2x1x2048 .f32) :=
  [⟨Rect.unit ![1, 0, 0] ![1, 1, 256] inb_S2x1x2048_S1x1x256_1_0_0, k0_pay7 (k0_pay73 (k0_pay13 (View.ld t (Rect.unit ![0, 0, 0, 0] ![1, 1, 1, 1] inb_S1x1x1024x2048_S1x1x1x1_0_0_0_0)))
          (k0_pay63 (k0_pay11 k) (View.ld q1 (Rect.unit ![0, 0] ![128, 256] inb_S128x2048_S128x256_0_0)))
          (View.ld m (Rect.unit ![1, 0, 0] ![1, 1, 256] inb_S2x1x2048_S1x1x256_1_0_0)))⟩,
    ⟨Rect.unit ![1, 0, 256] ![1, 1, 768] inb_S2x1x2048_S1x1x768_1_0_256, k0_pay70
        (k0_pay66 (k0_pay13 (View.ld t (Rect.unit ![0, 0, 0, 0] ![1, 1, 1, 1] inb_S1x1x1024x2048_S1x1x1x1_0_0_0_0)))
          (k0_pay55 (k0_pay11 k) (View.ld q1 (Rect.unit ![0, 256] ![128, 768] inb_S128x2048_S128x768_0_256)))
          (View.ld m (Rect.unit ![1, 0, 256] ![1, 1, 768] inb_S2x1x2048_S1x1x768_1_0_256)))⟩,
    ⟨Rect.unit ![1, 0, 1024] ![1, 1, 768] inb_S2x1x2048_S1x1x768_1_0_1024, k0_pay62
        (k0_pay58 (k0_pay13 (View.ld t (Rect.unit ![0, 0, 0, 0] ![1, 1, 1, 1] inb_S1x1x1024x2048_S1x1x1x1_0_0_0_0)))
          (k0_pay47 (k0_pay11 k) (View.ld q1 (Rect.unit ![0, 1024] ![128, 768] inb_S128x2048_S128x768_0_1024)))
          (View.ld m (Rect.unit ![1, 0, 1024] ![1, 1, 768] inb_S2x1x2048_S1x1x768_1_0_1024)))⟩,
    ⟨Rect.unit ![1, 0, 1792] ![1, 1, 256] inb_S2x1x2048_S1x1x256_1_0_1792, k0_pay54
        (k0_pay50 (k0_pay13 (View.ld t (Rect.unit ![0, 0, 0, 0] ![1, 1, 1, 1] inb_S1x1x1024x2048_S1x1x1x1_0_0_0_0)))
          (k0_pay39 (k0_pay11 k) (View.ld q1 (Rect.unit ![0, 1792] ![128, 256] inb_S128x2048_S128x256_0_1792)))
          (View.ld m (Rect.unit ![1, 0, 1792] ![1, 1, 256] inb_S2x1x2048_S1x1x256_1_0_1792)))⟩,
    ⟨Rect.unit ![0, 0, 1792] ![1, 1, 256] inb_S2x1x2048_S1x1x256_0_0_1792, k0_pay46
        (k0_pay42 (k0_pay13 (View.ld t (Rect.unit ![0, 0, 0, 0] ![1, 1, 1, 1] inb_S1x1x1024x2048_S1x1x1x1_0_0_0_0)))
          (k0_pay31 (k0_pay11 k) (View.ld q0 (Rect.unit ![0, 1792] ![128, 256] inb_S128x2048_S128x256_0_1792)))
          (View.ld m (Rect.unit ![0, 0, 1792] ![1, 1, 256] inb_S2x1x2048_S1x1x256_0_0_1792)))⟩,
    ⟨Rect.unit ![0, 0, 1024] ![1, 1, 768] inb_S2x1x2048_S1x1x768_0_0_1024, k0_pay38
        (k0_pay34 (k0_pay13 (View.ld t (Rect.unit ![0, 0, 0, 0] ![1, 1, 1, 1] inb_S1x1x1024x2048_S1x1x1x1_0_0_0_0)))
          (k0_pay23 (k0_pay11 k) (View.ld q0 (Rect.unit ![0, 1024] ![128, 768] inb_S128x2048_S128x768_0_1024)))
          (View.ld m (Rect.unit ![0, 0, 1024] ![1, 1, 768] inb_S2x1x2048_S1x1x768_0_0_1024)))⟩,
    ⟨Rect.unit ![0, 0, 256] ![1, 1, 768] inb_S2x1x2048_S1x1x768_0_0_256, k0_pay30
        (k0_pay26 (k0_pay13 (View.ld t (Rect.unit ![0, 0, 0, 0] ![1, 1, 1, 1] inb_S1x1x1024x2048_S1x1x1x1_0_0_0_0)))
          (k0_pay15 k (View.ld q0 (Rect.unit ![0, 256] ![128, 768] inb_S128x2048_S128x768_0_256))) (View.ld m (Rect.unit ![0, 0, 256] ![1, 1, 768] inb_S2x1x2048_S1x1x768_0_0_256)))⟩,
    ⟨Rect.unit ![0, 0, 0] ![1, 1, 256] inb_S2x1x2048_S1x1x256_0_0_0, k0_pay22 (k0_pay18 (View.ld t (Rect.unit ![0, 0, 0, 0] ![1, 1, 1, 1] inb_S1x1x1024x2048_S1x1x1x1_0_0_0_0))
          (k0_pay14 k (View.ld q0 (Rect.unit ![0, 0] ![128, 256] inb_S128x2048_S128x256_0_0))) (View.ld m (Rect.unit ![0, 0, 0] ![1, 1, 256] inb_S2x1x2048_S1x1x256_0_0_0)))⟩]

/-- A block far from the diagonal: what it stores into the accumulator, newest first. -/
def farAccs (k : Vec Ideal S1024x128 .bf16) (v : Vec Ideal S144x1024 .bf16) (t : Vec Ideal S1x1x1024x2048 .f32)
    (q0 q1 : Vec Ideal S128x2048 .bf16) (m : Vec Ideal S2x1x2048 .f32) (s : Vec Ideal S2x144x2048 .f32) : List (View.Piece (Elt Ideal) S2x144x2048 .f32) :=
  [⟨Rect.unit ![1, 0, 0] ![1, 144, 256] inb_S2x144x2048_S1x144x256_1_0_0, k0_pay6
        (k0_pay74 (k0_pay12 v) (k0_pay13 (View.ld t (Rect.unit ![0, 0, 0, 0] ![1, 1, 1, 1] inb_S1x1x1024x2048_S1x1x1x1_0_0_0_0)))
          (k0_pay63 (k0_pay11 k) (View.ld q1 (Rect.unit ![0, 0] ![128, 256] inb_S128x2048_S128x256_0_0))) (View.ld m (Rect.unit ![1, 0, 0] ![1, 1, 256] inb_S2x1x2048_S1x1x256_1_0_0))
          (View.ld s (Rect.unit ![1, 0, 0] ![1, 144, 256] inb_S2x144x2048_S1x144x256_1_0_0)))⟩,
    ⟨Rect.unit ![1, 0, 256] ![1, 144, 768] inb_S2x144x2048_S1x144x768_1_0_256, k0_pay69 (k0_pay12 v)
        (k0_pay67 (k0_pay13 (View.ld t (Rect.unit ![0, 0, 0, 0] ![1, 1, 1, 1] inb_S1x1x1024x2048_S1x1x1x1_0_0_0_0)))
          (k0_pay55 (k0_pay11 k) (View.ld q1 (Rect.unit ![0, 256] ![128, 768] inb_S128x2048_S128x768_0_256)))
          (View.ld m (Rect.unit ![1, 0, 256] ![1, 1, 768] inb_S2x1x2048_S1x1x768_1_0_256)))
        (k0_pay68 (k0_pay13 (View.ld t (Rect.unit ![0, 0, 0, 0] ![1, 1, 1, 1] inb_S1x1x1024x2048_S1x1x1x1_0_0_0_0)))
          (k0_pay55 (k0_pay11 k) (View.ld q1 (Rect.unit ![0, 256] ![128, 768] inb_S128x2048_S128x768_0_256)))
          (View.ld m (Rect.unit ![1, 0, 256] ![1, 1, 768] inb_S2x1x2048_S1x1x768_1_0_256))) (View.ld s (Rect.unit ![1, 0, 256] ![1, 144, 768] inb_S2x144x2048_S1x144x768_1_0_256))⟩,
    ⟨Rect.unit ![1, 0, 1024] ![1, 144, 768] inb_S2x144x2048_S1x144x768_1_0_1024, k0_pay61 (k0_pay12 v)
        (k0_pay59 (k0_pay13 (View.ld t (Rect.unit ![0, 0, 0, 0] ![1, 1, 1, 1] inb_S1x1x1024x2048_S1x1x1x1_0_0_0_0)))
          (k0_pay47 (k0_pay11 k) (View.ld q1 (Rect.unit ![0, 1024] ![128, 768] inb_S128x2048_S128x768_0_1024)))
          (View.ld m (Rect.unit ![1, 0, 1024] ![1, 1, 768] inb_S2x1x2048_S1x1x768_1_0_1024)))
        (k0_pay60 (k0_pay13 (View.ld t (Rect.unit ![0, 0, 0, 0] ![1, 1, 1, 1] inb_S1x1x1024x2048_S1x1x1x1_0_0_0_0)))
          (k0_pay47 (k0_pay11 k) (View.ld q1 (Rect.unit ![0, 1024] ![128, 768] inb_S128x2048_S128x768_0_1024)))
          (View.ld m (Rect.unit ![1, 0, 1024] ![1, 1, 768] inb_S2x1x2048_S1x1x768_1_0_1024))) (View.ld s (Rect.unit ![1, 0, 1024] ![1, 144, 768] inb_S2x144x2048_S1x144x768_1_0_1024))⟩,
    ⟨Rect.unit ![1, 0, 1792] ![1, 144, 256] inb_S2x144x2048_S1x144x256_1_0_1792, k0_pay53 (k0_pay12 v)
        (k0_pay51 (k0_pay13 (View.ld t (Rect.unit ![0, 0, 0, 0] ![1, 1, 1, 1] inb_S1x1x1024x2048_S1x1x1x1_0_0_0_0)))
          (k0_pay39 (k0_pay11 k) (View.ld q1 (Rect.unit ![0, 1792] ![128, 256] inb_S128x2048_S128x256_0_1792)))
          (View.ld m (Rect.unit ![1, 0, 1792] ![1, 1, 256] inb_S2x1x2048_S1x1x256_1_0_1792)))
        (k0_pay52 (k0_pay13 (View.ld t (Rect.unit ![0, 0, 0, 0] ![1, 1, 1, 1] inb_S1x1x1024x2048_S1x1x1x1_0_0_0_0)))
          (k0_pay39 (k0_pay11 k) (View.ld q1 (Rect.unit ![0, 1792] ![128, 256] inb_S128x2048_S128x256_0_1792)))
          (View.ld m (Rect.unit ![1, 0, 1792] ![1, 1, 256] inb_S2x1x2048_S1x1x256_1_0_1792))) (View.ld s (Rect.unit ![1, 0, 1792] ![1, 144, 256] inb_S2x144x2048_S1x144x256_1_0_1792))⟩,
    ⟨Rect.unit ![0, 0, 1792] ![1, 144, 256] inb_S2x144x2048_S1x144x256_0_0_1792, k0_pay45 (k0_pay12 v)
        (k0_pay43 (k0_pay13 (View.ld t (Rect.unit ![0, 0, 0, 0] ![1, 1, 1, 1] inb_S1x1x1024x2048_S1x1x1x1_0_0_0_0)))
          (k0_pay31 (k0_pay11 k) (View.ld q0 (Rect.unit ![0, 1792] ![128, 256] inb_S128x2048_S128x256_0_1792)))
          (View.ld m (Rect.unit ![0, 0, 1792] ![1, 1, 256] inb_S2x1x2048_S1x1x256_0_0_1792)))
        (k0_pay44 (k0_pay13 (View.ld t (Rect.unit ![0, 0, 0, 0] ![1, 1, 1, 1] inb_S1x1x1024x2048_S1x1x1x1_0_0_0_0)))
          (k0_pay31 (k0_pay11 k) (View.ld q0 (Rect.unit ![0, 1792] ![128, 256] inb_S128x2048_S128x256_0_1792)))
          (View.ld m (Rect.unit ![0, 0, 1792] ![1, 1, 256] inb_S2x1x2048_S1x1x256_0_0_1792))) (View.ld s (Rect.unit ![0, 0, 1792] ![1, 144, 256] inb_S2x144x2048_S1x144x256_0_0_1792))⟩,
    ⟨Rect.unit ![0, 0, 1024] ![1, 144, 768] inb_S2x144x2048_S1x144x768_0_0_1024, k0_pay37 (k0_pay12 v)
        (k0_pay35 (k0_pay13 (View.ld t (Rect.unit ![0, 0, 0, 0] ![1, 1, 1, 1] inb_S1x1x1024x2048_S1x1x1x1_0_0_0_0)))
          (k0_pay23 (k0_pay11 k) (View.ld q0 (Rect.unit ![0, 1024] ![128, 768] inb_S128x2048_S128x768_0_1024)))
          (View.ld m (Rect.unit ![0, 0, 1024] ![1, 1, 768] inb_S2x1x2048_S1x1x768_0_0_1024)))
        (k0_pay36 (k0_pay13 (View.ld t (Rect.unit ![0, 0, 0, 0] ![1, 1, 1, 1] inb_S1x1x1024x2048_S1x1x1x1_0_0_0_0)))
          (k0_pay23 (k0_pay11 k) (View.ld q0 (Rect.unit ![0, 1024] ![128, 768] inb_S128x2048_S128x768_0_1024)))
          (View.ld m (Rect.unit ![0, 0, 1024] ![1, 1, 768] inb_S2x1x2048_S1x1x768_0_0_1024))) (View.ld s (Rect.unit ![0, 0, 1024] ![1, 144, 768] inb_S2x144x2048_S1x144x768_0_0_1024))⟩,
    ⟨Rect.unit ![0, 0, 256] ![1, 144, 768] inb_S2x144x2048_S1x144x768_0_0_256, k0_pay29 (k0_pay12 v)
        (k0_pay27 (k0_pay13 (View.ld t (Rect.unit ![0, 0, 0, 0] ![1, 1, 1, 1] inb_S1x1x1024x2048_S1x1x1x1_0_0_0_0)))
          (k0_pay15 k (View.ld q0 (Rect.unit ![0, 256] ![128, 768] inb_S128x2048_S128x768_0_256))) (View.ld m (Rect.unit ![0, 0, 256] ![1, 1, 768] inb_S2x1x2048_S1x1x768_0_0_256)))
        (k0_pay28 (k0_pay13 (View.ld t (Rect.unit ![0, 0, 0, 0] ![1, 1, 1, 1] inb_S1x1x1024x2048_S1x1x1x1_0_0_0_0)))
          (k0_pay15 k (View.ld q0 (Rect.unit ![0, 256] ![128, 768] inb_S128x2048_S128x768_0_256))) (View.ld m (Rect.unit ![0, 0, 256] ![1, 1, 768] inb_S2x1x2048_S1x1x768_0_0_256)))
        (View.ld s (Rect.unit ![0, 0, 256] ![1, 144, 768] inb_S2x144x2048_S1x144x768_0_0_256))⟩,
    ⟨Rect.unit ![0, 0, 0] ![1, 144, 256] inb_S2x144x2048_S1x144x256_0_0_0, k0_pay21 (k0_pay12 v)
        (k0_pay19 (View.ld t (Rect.unit ![0, 0, 0, 0] ![1, 1, 1, 1] inb_S1x1x1024x2048_S1x1x1x1_0_0_0_0))
          (k0_pay14 k (View.ld q0 (Rect.unit ![0, 0] ![128, 256] inb_S128x2048_S128x256_0_0))) (View.ld m (Rect.unit ![0, 0, 0] ![1, 1, 256] inb_S2x1x2048_S1x1x256_0_0_0)))
        (k0_pay20 (View.ld t (Rect.unit ![0, 0, 0, 0] ![1, 1, 1, 1] inb_S1x1x1024x2048_S1x1x1x1_0_0_0_0))
          (k0_pay14 k (View.ld q0 (Rect.unit ![0, 0] ![128, 256] inb_S128x2048_S128x256_0_0))) (View.ld m (Rect.unit ![0, 0, 0] ![1, 1, 256] inb_S2x1x2048_S1x1x256_0_0_0)))
        (View.ld s (Rect.unit ![0, 0, 0] ![1, 144, 256] inb_S2x144x2048_S1x144x256_0_0_0))⟩]

end Attn

end
-- ==== Proof.Queries.lean ====
module

public import proofs.«01_k».proof.Proof.Step
public import proofs.«01_k».proof.Proof.Pieces

@[expose] public section

/-! # The two masked copies of the queries

The first map keeps the first 64 rows of the block, the second the others, so a product over 128 is one over 64. -/

set_option maxRecDepth 16384
set_option maxHeartbeats 2000000

open Idealize Idealize.ShloMosaic
open Cert.KernelIdeal Cert.KernelIdeal.Gen

namespace Attn

theorem pay2_apply (Q : Vec Ideal S128x2048 .bf16) (d : Fin 128) (q : Fin 2048) :
    k0_pay2 (F := Ideal) Q (ix2 d q) = if d.val < 64 then Q (ix2 d q) else 0 := by
  open_payloads
  pointwise
  have h : IntOp.cmpi .slt (BitVec.ofNat 32 d.val) 64#32 = BitVec.ofBool (decide (d.val < 64)) := by
    revert d; decide +kernel
  rw [h]
  by_cases hd : d.val < 64 <;> simp [hd, Scalar.select]

theorem pay3_apply (Q : Vec Ideal S128x2048 .bf16) (d : Fin 128) (q : Fin 2048) :
    k0_pay3 (F := Ideal) Q (ix2 d q) = if d.val < 64 then 0 else Q (ix2 d q) := by
  open_payloads
  pointwise
  have h : IntOp.cmpi .sge (BitVec.ofNat 32 d.val) 64#32 = BitVec.ofBool (decide (¬ d.val < 64)) := by
    revert d; decide +kernel
  rw [h]
  by_cases hd : d.val < 64 <;> simp [hd, Scalar.select]

theorem pay4_apply (a : Fin 2) (q : Fin 2048) : k0_pay4 (F := Ideal) (ix3 a 0 q) = (⊥ : EReal) := by
  open_payloads
  pointwise [ofBits_neg_inf]

theorem pay5_apply (a : Fin 2) (e : Fin 144) (q : Fin 2048) : k0_pay5 (F := Ideal) (ix3 a e q) = (0 : EReal) := by
  open_payloads
  pointwise

/-- The row of the block a map's row `d` is. -/
def half (a : Fin 2) (d : Fin 64) : Fin 128 := ⟨64 * a.val + d.val, by omega⟩

/-- The product over the block is the product over the map's half. -/
theorem far_half (k : Vec Ideal S1024x128 .bf16) (Q : Vec Ideal S128x2048 .bf16) (a : Fin 2) (q : Fin 2048) (b : Fin 1024) :
    farScore k (k0_pay2 (F := Ideal) Q) (k0_pay3 (F := Ideal) Q) a q b
      = ∑ d : Fin 64, (k (ix2 b (half a d)) : EReal) * Q (ix2 (half a d) q) := by
  unfold farScore
  rw [show (∑ d : Fin 128, k (ix2 b d) * pick (k0_pay2 (F := Ideal) Q) (k0_pay3 (F := Ideal) Q) a (ix2 d q) : EReal)
    = ∑ d : Fin (64 + 64), k (ix2 b (d : Fin 128)) * pick (k0_pay2 (F := Ideal) Q) (k0_pay3 (F := Ideal) Q) a (ix2 (d : Fin 128) q) from rfl,
    Fin.sum_univ_add]
  fin_cases a
  · rw [Finset.sum_eq_zero (s := Finset.univ) (f := fun d : Fin 64 => _ * pick _ _ _ (ix2 (Fin.natAdd 64 d : Fin 128) q)), add_zero]
    · refine Finset.sum_congr rfl fun d _ => ?_
      have hd : (half 0 d) = (Fin.castAdd 64 d : Fin 128) := Fin.ext (by simp [half])
      show _ * k0_pay2 (F := Ideal) Q (ix2 (Fin.castAdd 64 d : Fin 128) q) = _
      rw [pay2_apply, if_pos (by simp), ← hd]
      rfl
    · intro d _
      show _ * k0_pay2 (F := Ideal) Q (ix2 (Fin.natAdd 64 d : Fin 128) q) = _
      rw [pay2_apply, if_neg (by simp)]
      exact mul_zero _
  · rw [Finset.sum_eq_zero (s := Finset.univ) (f := fun d : Fin 64 => _ * pick _ _ _ (ix2 (Fin.castAdd 64 d : Fin 128) q)), zero_add]
    · refine Finset.sum_congr rfl fun d _ => ?_
      have hd : (half 1 d) = (Fin.natAdd 64 d : Fin 128) := Fin.ext (by simp [half, Nat.add_comm])
      show _ * k0_pay3 (F := Ideal) Q (ix2 (Fin.natAdd 64 d : Fin 128) q) = _
      rw [pay3_apply, if_neg (by simp), ← hd]
      rfl
    · intro d _
      show _ * k0_pay3 (F := Ideal) Q (ix2 (Fin.castAdd 64 d : Fin 128) q) = _
      rw [pay3_apply, if_pos (by simp)]
      exact mul_zero _

theorem near_eq_far (k : Vec Ideal S1024x128 .bf16) (t : Vec Ideal S1x1x1024x2048 .f32) (q0 q1 : Vec Ideal S128x2048 .bf16)
    (a : Fin 2) (q : Fin 2048) (b : Fin 1024) :
    nearScore k t q0 q1 a q b = farScore k q0 q1 a q b + (t (ix4 0 0 b q) : EReal) := rfl

end Attn
-- ==== Proof.Tiles.lean ====
module

public import proofs.«01_k».proof.Proof.Entry

@[expose] public section

/-! # The bias tiles the host prepares -/

set_option maxRecDepth 16384
set_option maxHeartbeats 2000000

open Idealize Idealize.ShloMosaic Idealize.ShloMosaic.TcCoe
open Cert.KernelIdeal Cert.KernelIdeal.Gen

noncomputable section

namespace Attn

variable (m : (ℓ : Loc nD τ sig) → Buf (Elt Ideal) ℓ) (c : Dev nD)

/-- The half of the table a distance belongs to. -/
theorem side_word (W : IVec S6x1024x2048 32) (o : Fin 6) (b : Fin 1024) (q : Fin 2048) : id (select (cmpi CmpIPredicate.sgt W
        (broadcastInDim S6x1024x2048 ![] bcast_S_S6x1024x2048 (constantI S_ 32 0#32)))
      (broadcastInDim S6x1024x2048 ![] bcast_S_S6x1024x2048 (constantI S_ 32 16#32))
      (broadcastInDim S6x1024x2048 ![] bcast_S_S6x1024x2048 (constantI S_ 32 0#32))) (ix3 o b q)
      = Scalar.select (IntOp.cmpi CmpIPredicate.sgt (W (ix3 o b q)) 0#32) 16#32 0#32 := rfl

theorem host_t (o : Fin 6) (h : Fin 4) (b : Fin 1024) (q : Fin 2048) : V m c main_v59 (ix4 o h b q)
    = argB m c (rowOf (slot (tileRel o b q))) (⟨12 + h.val, by omega⟩ : Fin 16)
      * Ideal.div 1 (Ideal.log (Ideal.ofBits .f32 1073741824#32)) := by
  simp only [V, hostOps0, hostOps0_1, hostOps0_2, hostOps0_3, hostOps0_4, List.flatten_cons, List.flatten_nil, List.append_nil, List.cons_append, List.nil_append]
  after_reads_at
  refine (gather_kernel _ _ o b q h).trans ?_
  generalize hW : (subi (addi (muli (addi (iotaInDim S6x1024x2048 32 0)
      (broadcastInDim S6x1024x2048 ![] bcast_S_S6x1024x2048 (constantI S_ 32 4294967294#32)))
      (broadcastInDim S6x1024x2048 ![] bcast_S_S6x1024x2048 (constantI S_ 32 1024#32)))
      (iotaInDim S6x1024x2048 32 1)) (iotaInDim S6x1024x2048 32 2) : IVec S6x1024x2048 32) = W
  have hw : W (ix3 o b q) = tileRel o b q := by rw [← hW]; rfl
  rw [← hw]
  clear hw hW
  pointwise
  rw [side_word]
  generalize W (ix3 o b q) = w
  rfl

end Attn
-- ==== Proof.Blocks.lean ====
module

public import proofs.«01_k».proof.Proof.Entry

@[expose] public section

/-! # What each grid point is handed

The block of every operand at a grid point, as entries of the array it is cut from. -/

set_option maxRecDepth 16384
set_option maxHeartbeats 2000000

open Idealize Idealize.ShloMosaic Idealize.ShloMosaic.TcCoe
open Cert.KernelIdeal Cert.KernelIdeal.Gen

noncomputable section

namespace Attn

variable (m : (ℓ : Loc nD τ sig) → Buf (Elt Ideal) ℓ) (c : Dev nD)

/-- Which block each window takes at a grid point. -/
theorem idx : ∀ t : Fin cfg0.N,
    win0_0.index t = ![t.val / 128, t.val / 16 % 8] ∧ win0_1.index t = ![t.val % 16, t.val / 128]
    ∧ win0_2.index t = ![t.val / 128, t.val % 16]
    ∧ win0_3.index t = ![min 5 (t.val % 16 + 2 - 2 * (t.val / 16 % 8)), t.val / 128, 0, 0]
    ∧ win0_4.index t = ![0, 0] ∧ win0_5.index t = ![0, 0]
    ∧ win0_6.index t = ![t.val / 16 % 8, t.val / 128] := by decide +kernel

theorem t_lt (t : Fin cfg0.N) : t.val < 512 := t.isLt

theorem blk_q (t : Fin cfg0.N) (d : Fin 128) (q : Fin 2048) : iblk m c 0 t (ix2 d q)
    = V m c main_v6 (ix2 (⟨128 * (t.val / 128) + d.val, by have := t_lt t; omega⟩ : Fin 512)
        (⟨2048 * (t.val / 16 % 8) + q.val, by omega⟩ : Fin 16384)) := by
  have := t_lt t
  blk_ext [iblk, V, idx t]

theorem blk_k (t : Fin cfg0.N) (d : Fin 128) (b : Fin 1024) : iblk m c 1 t (ix2 b d)
    = V m c main_v7 (ix2 (⟨1024 * (t.val % 16) + b.val, by omega⟩ : Fin 16384)
        (⟨128 * (t.val / 128) + d.val, by have := t_lt t; omega⟩ : Fin 512)) := by
  have := t_lt t
  blk_ext [iblk, V, idx t]

theorem blk_v (t : Fin cfg0.N) (e : Fin 144) (b : Fin 1024) : iblk m c 2 t (ix2 e b)
    = V m c main_v13 (ix2 (⟨144 * (t.val / 128) + e.val, by have := t_lt t; omega⟩ : Fin 576)
        (⟨1024 * (t.val % 16) + b.val, by omega⟩ : Fin 16384)) := by
  have := t_lt t
  blk_ext [iblk, V, idx t]

theorem blk_t (t : Fin cfg0.N) (b : Fin 1024) (q : Fin 2048) : iblk m c 3 t (ix4 0 0 b q)
    = V m c main_v59 (ix4 (⟨min 5 (t.val % 16 + 2 - 2 * (t.val / 16 % 8)), by omega⟩ : Fin 6)
        (⟨t.val / 128, by have := t_lt t; omega⟩ : Fin 4) b q) := by
  have := t_lt t
  blk_ext [iblk, V, idx t]

theorem blk_l (t : Fin cfg0.N) (r : Fin 4) (d : Fin 64) : iblk m c 4 t (ix2 r d)
    = m ((c : Thread nD τ).loc main_arg4) (ix2 r d) := by
  have := t_lt t
  rw [← V_main_arg4 m c]
  blk_ext [iblk, V, idx t]

theorem blk_g (t : Fin cfg0.N) (e : Fin 128) : iblk m c 5 t (ix2 0 e) = V m c main_v60 (ix2 0 e) := by
  have := t_lt t
  blk_ext [iblk, V, idx t]

end Attn
-- ==== Proof.Softmax.lean ====
module

public import Idealize.ShloMosaic.Lib.Pipeline.ValueKit

@[expose] public section

/-! # The running softmax over the extended reals

A softmax-weighted sum taken block of keys by block of keys: a running maximum and an accumulator that is
rescaled by the change of the maximum. `Held` says what the two hold after `n` blocks; `Held.step` is one
more block, and `Held.ratio` the quotient of an accumulator by the row of ones. -/

open Idealize Idealize.ShloMosaic

namespace Attn

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, folded from `-∞`, is `-∞` or a real. -/
theorem fold_max_real {ι : Type*} (s : Finset ι) (f : ι → ℝ) :
    (s.fold max (⊥ : EReal) fun i => (f i : EReal)) = ⊥ ∧ s = ∅ ∨
      ∃ r : ℝ, (s.fold max (⊥ : EReal) fun i => (f i : EReal)) = (r : EReal) := by
  classical
  induction s using Finset.induction_on with
  | empty => exact Or.inl ⟨rfl, rfl⟩
  | insert a s ha ih =>
    right
    rw [Finset.fold_insert ha]
    rcases ih with ⟨h, -⟩ | ⟨r, h⟩
    · exact ⟨f a, by rw [h]; exact max_bot_right _⟩
    · exact ⟨max (f a) r, by rw [h]; exact (EReal.coe_strictMono.monotone.map_max).symm⟩

/-- Over a nonempty index the maximum is a real. -/
theorem exists_fold_max {ι : Type*} [Fintype ι] [Nonempty ι] (f : ι → ℝ) :
    ∃ r : ℝ, ((Finset.univ : Finset ι).fold max (⊥ : EReal) fun i => (f i : EReal)) = (r : EReal) := by
  rcases fold_max_real Finset.univ f with ⟨-, h⟩ | h
  · exact absurd h Finset.univ_nonempty.ne_empty
  · exact h

/-- What the running maximum `m` and the accumulator rows `acc` hold after `n` blocks: nothing yet, or the sums of the
    values weighted by the powers of two of the scores over `2 ^ M`, for the real `M` that `m` is. -/
def Held {ι β : Type*} [Fintype β] (z : ℕ → β → ℝ) (v : ι → ℕ → β → ℝ) (n : ℕ) (m : EReal) (acc : ι → EReal) : Prop :=
  (n = 0 ∧ m = ⊥ ∧ ∀ e, acc e = 0) ∨
    ∃ M : ℝ, m = (M : EReal) ∧
      ∀ e, acc e = ((∑ j ∈ Finset.range n, ∑ b, v e j b * (2 : ℝ) ^ (z j b - M) : ℝ) : EReal)

theorem Held.init {ι β : Type*} [Fintype β] (z : ℕ → β → ℝ) (v : ι → ℕ → β → ℝ) {m : EReal} {acc : ι → EReal}
    (hm : m = ⊥) (ha : ∀ e, acc e = 0) : Held z v 0 m acc := Or.inl ⟨rfl, hm, ha⟩

/-- One block: the scores are `z n b` up to the constant `kc`, the new maximum is over the old one and the block's. -/
theorem Held.step {ι β : Type*} [Fintype β] [Nonempty β] {z : ℕ → β → ℝ} {v : ι → ℕ → β → ℝ} {n : ℕ} {m : EReal}
    {acc : ι → EReal} (h : Held z v n m acc) (s : β → EReal) (kc : ℝ) (vt : ι → β → EReal)
    (hs : ∀ b, s b = ((z n b - kc : ℝ) : EReal)) (hv : ∀ e b, vt e b = (v e n b : EReal))
    {m' : EReal} (hm' : m' = max m ((Finset.univ : Finset β).fold max ⊥ s + (kc : EReal)))
    {acc' : ι → EReal}
    (ha' : ∀ e, acc' e = Ideal.exp2 (m - m') * acc e + ∑ b, vt e b * Ideal.exp2 (s b - (m' - (kc : EReal)))) :
    Held z v (n + 1) m' acc' := by
  obtain ⟨r, hr⟩ := exists_fold_max (fun b => z n b - kc)
  have hs' : s = fun b => ((z n b - kc : ℝ) : EReal) := funext hs
  rw [hs', hr, ← EReal.coe_add] at hm'
  have hterm : ∀ M' : ℝ, m' = (M' : EReal) → ∀ e, ∑ b, vt e b * Ideal.exp2 (s b - (m' - (kc : EReal)))
      = ((∑ b, v e n b * (2 : ℝ) ^ (z n b - M') : ℝ) : EReal) := by
    intro M' hM' e
    rw [coe_sum]
    refine Finset.sum_congr rfl fun b _ => ?_
    rw [hs, hv, hM', ← EReal.coe_sub, ← EReal.coe_sub]
    show (v e n b : EReal) * ((Real.rpow 2 _ : ℝ) : EReal) = _
    rw [← EReal.coe_mul]
    congr 3
    show z n b - kc - (M' - kc) = z n b - M'
    ring
  rcases h with ⟨hn, hm, ha⟩ | ⟨M, hm, ha⟩
  · refine Or.inr ⟨r + kc, ?_, fun e => ?_⟩
    · rw [hm', hm]; exact max_bot_left _
    · have hM' : m' = ((r + kc : ℝ) : EReal) := by rw [hm', hm]; exact max_bot_left _
      rw [ha', ha, mul_zero, zero_add, hterm _ hM', hn]
      simp
  · refine Or.inr ⟨max M (r + kc), ?_, fun e => ?_⟩
    · rw [hm', hm]; exact (EReal.coe_strictMono.monotone.map_max).symm
    · have hM' : m' = ((max M (r + kc) : ℝ) : EReal) := by
        rw [hm', hm]; exact (EReal.coe_strictMono.monotone.map_max).symm
      rw [ha', ha, hterm _ hM', hM', hm, ← EReal.coe_sub]
      show ((Real.rpow 2 _ : ℝ) : EReal) * _ + _ = _
      rw [← EReal.coe_mul, ← EReal.coe_add, Finset.sum_range_succ]
      congr 2
      rw [Finset.mul_sum]
      refine Finset.sum_congr rfl fun j _ => ?_
      rw [Finset.mul_sum]
      refine Finset.sum_congr rfl fun b _ => ?_
      show (2 : ℝ) ^ (M - max M (r + kc)) * _ = _
      rw [mul_left_comm, ← Real.rpow_add (by norm_num)]
      congr 2
      ring

/-- After at least one block, the quotient of a row by a row of ones is the softmax-weighted sum of the values: with the
    exponents `x = z · log 2` and any shift `mx`. -/
theorem Held.ratio {ι β : Type*} [Fintype β] [Nonempty β] {z : ℕ → β → ℝ} {v : ι → ℕ → β → ℝ} {n : ℕ} {m : EReal}
    {acc : ι → EReal} (h : Held z v (n + 1) m acc) (x : ℕ → β → ℝ) (hx : ∀ j b, z j b * Real.log 2 = x j b) (mx : ℝ)
    (o : ι) (ho : ∀ j b, v o j b = 1) (e : ι) :
    Ideal.div (acc e) (acc o)
      = ((∑ j ∈ Finset.range (n + 1), ∑ b, v e j b *
          (Real.exp (x j b - mx) / ∑ j ∈ Finset.range (n + 1), ∑ b, Real.exp (x j b - mx)) : ℝ) : EReal) := by
  rcases h with ⟨h, -⟩ | ⟨M, -, ha⟩
  · omega
  · have hp : ∀ j b, (2 : ℝ) ^ (z j b - M) = Real.exp (mx - M * Real.log 2) * Real.exp (x j b - mx) := by
      intro j b
      rw [Real.rpow_def_of_pos (by norm_num), ← Real.exp_add]
      congr 1
      rw [← hx]; ring
    have hsum : ∀ f : ℕ → β → ℝ, ∑ j ∈ Finset.range (n + 1), ∑ b, f j b * (2 : ℝ) ^ (z j b - M)
        = Real.exp (mx - M * Real.log 2) * ∑ j ∈ Finset.range (n + 1), ∑ b, f j b * Real.exp (x j b - mx) := by
      intro f
      rw [Finset.mul_sum]
      refine Finset.sum_congr rfl fun j _ => ?_
      rw [Finset.mul_sum]
      refine Finset.sum_congr rfl fun b _ => ?_
      rw [hp]; ring
    have hD : 0 < ∑ j ∈ Finset.range (n + 1), ∑ b, Real.exp (x j b - mx) :=
      Finset.sum_pos (fun j _ => Finset.sum_pos (fun b _ => Real.exp_pos _) Finset.univ_nonempty) ⟨0, by simp⟩
    rw [ha, ha, hsum (v e), hsum (v o)]
    simp only [ho, one_mul]
    set D := ∑ j ∈ Finset.range (n + 1), ∑ b, Real.exp (x j b - mx) with hDdef
    set E := Real.exp (mx - M * Real.log 2) with hE
    have hE0 : 0 < E := Real.exp_pos _
    have hne : ((E * D : ℝ) : EReal) ≠ 0 := by
      rw [← EReal.coe_zero]; exact fun h => (mul_pos hE0 hD).ne' (EReal.coe_injective h)
    rw [Ideal.div, if_neg hne, ← EReal.coe_inv, ← EReal.coe_mul]
    congr 1
    have : ∀ j, ∑ b, v e j b * (Real.exp (x j b - mx) / D) = (∑ b, v e j b * Real.exp (x j b - mx)) / D := by
      intro j; rw [Finset.sum_div]; exact Finset.sum_congr rfl fun b _ => by rw [mul_div_assoc]
    simp only [this, ← Finset.sum_div]
    field_simp

end Attn
-- ==== Proof.Scores.lean ====
module

public import proofs.«01_k».proof.Proof.Words
public import proofs.«01_k».proof.Proof.Queries
public import proofs.«01_k».proof.Proof.Tiles
public import proofs.«01_k».proof.Proof.Blocks
public import proofs.«01_k».proof.Proof.Softmax

@[expose] public section

/-! # The scores of a block, in reals

With real arguments every score the kernel forms is the reference's score over the logarithm of two. -/

set_option maxRecDepth 16384
set_option maxHeartbeats 2000000

open Idealize Idealize.ShloMosaic
open Cert.KernelIdeal Cert.KernelIdeal.Gen

noncomputable section

namespace Attn

/-- Real queries, keys, values and table. -/
structure Args where
  q : Fin 16384 → Fin 512 → ℝ
  k : Fin 16384 → Fin 512 → ℝ
  v : Fin 16384 → Fin 512 → ℝ
  b : Fin 32 → Fin 16 → ℝ

/-- The column of a head's map. -/
def col (h : Fin 4) (a : Fin 2) (d : Fin 64) : Fin 512 := ⟨128 * h.val + 64 * a.val + d.val, by omega⟩

/-- The reference's score of key `p` for row `r`. -/
def Args.score (R : Args) (h : Fin 4) (a : Fin 2) (r p : Fin 16384) : ℝ :=
  (∑ d : Fin 64, R.q r (col h a d) * R.k p (col h a d)) * (1 / 8) + R.b (rowOf (slot (refRel p r))) ⟨12 + h.val, by omega⟩

/-- The memory holds these arguments. -/
structure Holds (m : (ℓ : Loc nD τ sig) → Buf (Elt Ideal) ℓ) (c : Dev nD) (R : Args) : Prop where
  q : ∀ r d, argQ m c r d = (R.q r d : EReal)
  k : ∀ r d, argK m c r d = (R.k r d : EReal)
  v : ∀ r d, argV m c r d = (R.v r d : EReal)
  b : ∀ r h, argB m c r h = (R.b r h : EReal)

theorem ofBits_two : Ideal.ofBits .f32 1073741824#32 = ((2 : ℝ) : EReal) := by
  simp [Ideal.ofBits, Ideal.ieee]
  norm_num
  rw [← EReal.coe_mul]
  norm_num

theorem ofBits_eighth : Ideal.ofBits .f32 1040187392#32 = ((1 / 8 : ℝ) : EReal) := by
  simp [Ideal.ofBits, Ideal.ieee]
  norm_num
  rw [← EReal.coe_mul]
  norm_num

theorem inv_log_two : Ideal.div 1 (Ideal.log (Ideal.ofBits .f32 1073741824#32)) = ((1 / Real.log 2 : ℝ) : EReal) := by
  rw [ofBits_two, Ideal.log_coe, if_neg (by norm_num), Ideal.div_coe (Real.log_pos (by norm_num)).ne', one_mul]

/-- The head, the row and the key of a grid point. -/
def head (t : Fin cfg0.N) : Fin 4 := ⟨t.val / 128, by have := t_lt t; omega⟩
def row (t : Fin cfg0.N) (q : Fin 2048) : Fin 16384 := ⟨2048 * (t.val / 16 % 8) + q.val, by omega⟩
def key (j : Fin 16) (b : Fin 1024) : Fin 16384 := ⟨1024 * j.val + b.val, by omega⟩
def kblock (t : Fin cfg0.N) : Fin 16 := ⟨t.val % 16, by omega⟩

variable {m : (ℓ : Loc nD τ sig) → Buf (Elt Ideal) ℓ} {c : Dev nD} {R : Args}

/-- The product of a block, with the queries of an earlier point of the same run. -/
theorem far_real (H : Holds m c R) (t t' : Fin cfg0.N) (ht : t'.val / 16 = t.val / 16) (a : Fin 2) (q : Fin 2048) (b : Fin 1024) :
    farScore (iblk m c 1 t) (k0_pay2 (F := Ideal) (iblk m c 0 t')) (k0_pay3 (F := Ideal) (iblk m c 0 t')) a q b
      = (((∑ d : Fin 64, R.q (row t q) (col (head t) a d) * R.k (key (kblock t) b) (col (head t) a d)) * (1 / 8) / Real.log 2 : ℝ) : EReal) := by
  rw [far_half, Finset.sum_mul, Finset.sum_div, coe_sum]
  refine Finset.sum_congr rfl fun d _ => ?_
  rw [blk_k, host_k, blk_q, host_q, inv_log_two, ofBits_eighth, H.k, H.q, ← EReal.coe_mul, ← EReal.coe_mul, ← EReal.coe_mul]
  have e1 : (⟨128 * (t.val / 128) + (half a d).val, by have := t_lt t; have := (half a d).isLt; omega⟩ : Fin 512) = col (head t) a d :=
    Fin.ext (by simp only [half, col, head]; omega)
  have e2 : (⟨128 * (t'.val / 128) + (half a d).val, by have := t_lt t'; have := (half a d).isLt; omega⟩ : Fin 512) = col (head t) a d :=
    Fin.ext (by simp only [half, col, head]; omega)
  have e3 : (⟨2048 * (t'.val / 16 % 8) + q.val, by omega⟩ : Fin 16384) = row t q := Fin.ext (by simp only [row]; omega)
  rw [e1, e2, e3]
  congr 1
  show R.k (key (kblock t) b) _ * _ = _
  ring

/-- The scores near the diagonal. -/
theorem near_real (H : Holds m c R) (t t' : Fin cfg0.N) (ht : t'.val / 16 = t.val / 16) (hn : Near t.val) (a : Fin 2) (q : Fin 2048)
    (b : Fin 1024) :
    nearScore (iblk m c 1 t) (iblk m c 3 t) (k0_pay2 (F := Ideal) (iblk m c 0 t')) (k0_pay3 (F := Ideal) (iblk m c 0 t')) a q b
      = ((R.score (head t) a (row t q) (key (kblock t) b) / Real.log 2 - 0 : ℝ) : EReal) := by
  rw [near_eq_far, far_real H t t' ht, blk_t, host_t, inv_log_two, H.b, ← EReal.coe_mul, ← EReal.coe_add,
    rel_near _ b q (key (kblock t) b) (row t q) (t.val / 16 % 8) (t.val % 16) rfl rfl (by simp only; omega)]
  congr 1
  unfold Args.score
  rw [sub_zero, add_div, mul_one_div (R.b _ _)]
  rfl

/-- The constant of a block away from the diagonal. -/
theorem corner_real (H : Holds m c R) (t : Fin cfg0.N) :
    iblk m c 3 t (ix4 0 0 0 0) = ((R.b (rowOf (slot (tileRel (⟨min 5 (t.val % 16 + 2 - 2 * (t.val / 16 % 8)), by omega⟩ : Fin 6) 0 0)))
      ⟨12 + (head t).val, by omega⟩ / Real.log 2 : ℝ) : EReal) := by
  rw [blk_t, host_t, inv_log_two, H.b, ← EReal.coe_mul, mul_one_div]
  rfl

/-- The scores away from it. -/
theorem away_real (H : Holds m c R) (t t' : Fin cfg0.N) (ht : t'.val / 16 = t.val / 16) (hn : ¬Near t.val) (a : Fin 2) (q : Fin 2048)
    (b : Fin 1024) :
    farScore (iblk m c 1 t) (k0_pay2 (F := Ideal) (iblk m c 0 t')) (k0_pay3 (F := Ideal) (iblk m c 0 t')) a q b
      = ((R.score (head t) a (row t q) (key (kblock t) b) / Real.log 2
          - R.b (rowOf (slot (tileRel (⟨min 5 (t.val % 16 + 2 - 2 * (t.val / 16 % 8)), by omega⟩ : Fin 6) 0 0)))
              ⟨12 + (head t).val, by omega⟩ / Real.log 2 : ℝ) : EReal) := by
  rw [far_real H t t' ht, slot_far _ b q (key (kblock t) b) (row t q) (t.val / 16 % 8) (t.val % 16) rfl rfl
    (by simp only; unfold Near at hn; omega)]
  congr 1
  unfold Args.score
  rw [add_div]
  ring

/-- The values of a block, the row of ones under them. -/
theorem value_real (H : Holds m c R) (t : Fin cfg0.N) (e : Fin 144) (b : Fin 1024) :
    iblk m c 2 t (ix2 e b) = ((if he : e.val < 128 then R.v (key (kblock t) b) ⟨128 * (head t).val + e.val, by omega⟩ else 1 : ℝ) : EReal) := by
  rw [blk_v]
  have := host_v m c (head t) e (key (kblock t) b)
  refine Eq.trans ?_ (this.trans ?_)
  · rfl
  · split
    · rw [H.v]
    · rfl

end Attn
-- ==== Proof.RefScores.lean ====
module

public import proofs.«01_k».proof.Proof.RefBias
public import proofs.«01_k».proof.Proof.Scores

@[expose] public section

/-! # The reference's scores and weights, in reals -/

set_option maxRecDepth 16384
set_option maxHeartbeats 2000000

open Idealize Idealize.ShloMosaic
open Cert.ReferenceIdeal Cert.ReferenceIdeal.Gen Cert.ReferenceIdeal.Read

noncomputable section

namespace Attn

/-- The reference's arguments are these reals. -/
structure Takes (x0 x1 x2 : (⟨S16384x512, .f32⟩ : BufTy).Contents (Elt Idealize.ShloMosaic.Ideal))
    (x3 : (⟨S32x16, .f32⟩ : BufTy).Contents (Elt Idealize.ShloMosaic.Ideal)) (R : Args) : Prop where
  q : ∀ r d, x0 (ix2 r d) = (R.q r d : EReal)
  k : ∀ r d, x1 (ix2 r d) = (R.k r d : EReal)
  v : ∀ r d, x2 (ix2 r d) = (R.v r d : EReal)
  b : ∀ r h, x3 (ix2 r h) = (R.b r h : EReal)

variable {x0 x1 x2 : (⟨S16384x512, .f32⟩ : BufTy).Contents (Elt Idealize.ShloMosaic.Ideal)}
  {x3 : (⟨S32x16, .f32⟩ : BufTy).Contents (Elt Idealize.ShloMosaic.Ideal)} {R : Args}

theorem idx_q (h : Fin 4) (a : Fin 2) (r p : Fin 16384) (d : Fin 64) :
    idx_main_v0 (lidx_main_v20 (ix4 h a r p) d) = ix2 r (col h a d) := by
  funext z
  match z with
  | ⟨0, _⟩ => exact Fin.ext (by
      show (((r.val * 4 + h.val) * 2 + a.val) * 64 + d.val) / 512 = r.val
      omega)
  | ⟨1, _⟩ => exact Fin.ext (by
      show (((r.val * 4 + h.val) * 2 + a.val) * 64 + d.val) % 512 = 128 * h.val + 64 * a.val + d.val
      omega)

theorem idx_k (h : Fin 4) (a : Fin 2) (r p : Fin 16384) (d : Fin 64) :
    idx_main_v1 (ridx_main_v20 (ix4 h a r p) d) = ix2 p (col h a d) := by
  funext z
  match z with
  | ⟨0, _⟩ => exact Fin.ext (by
      show (((p.val * 4 + h.val) * 2 + a.val) * 64 + d.val) / 512 = p.val
      omega)
  | ⟨1, _⟩ => exact Fin.ext (by
      show (((p.val * 4 + h.val) * 2 + a.val) * 64 + d.val) % 512 = 128 * h.val + 64 * a.val + d.val
      omega)

theorem ref_score (H : Takes x0 x1 x2 x3 R) (h : Fin 4) (a : Fin 2) (r p : Fin 16384) :
    val_main_v63 (F := Idealize.ShloMosaic.Ideal) x0 x1 x3 (ix4 h a r p) = ((R.score h a r p : ℝ) : EReal) := by
  rw [val_main_v63_apply, val_main_v22_apply, val_main_v62_apply, val_main_v61_apply, val_main_v60_apply,
    val_main_v20_apply, val_main_v21_apply]
  have hb : val_main_v59 (F := Idealize.ShloMosaic.Ideal) x3 (idx_main_v60 (idx_main_v61 (idx_main_v62 (ix4 h a r p))))
      = ((R.b (rowOf (slot (refRel p r))) ⟨12 + h.val, by omega⟩ : ℝ) : EReal) :=
    (congrArg _ (show idx_main_v60 (idx_main_v61 (idx_main_v62 (ix4 h a r p))) = ix3 r p h from funext fun z => match z with
      | ⟨0, _⟩ => rfl
      | ⟨1, _⟩ => rfl
      | ⟨2, _⟩ => rfl)).trans ((ref_bias x3 r p h).trans (H.b _ _))
  rw [hb]
  have hs : ∑ d : Fin 64, val_main_v0 (F := Idealize.ShloMosaic.Ideal) x0 (lidx_main_v20 (ix4 h a r p) d)
        * val_main_v1 (F := Idealize.ShloMosaic.Ideal) x1 (ridx_main_v20 (ix4 h a r p) d)
      = ((∑ d : Fin 64, R.q r (col h a d) * R.k p (col h a d) : ℝ) : EReal) := by
    rw [coe_sum]
    refine Finset.sum_congr rfl fun d _ => ?_
    rw [val_main_v0_apply, val_main_v1_apply, idx_q, idx_k, H.q, H.k, EReal.coe_mul]
  show (∑ d : Fin 64, val_main_v0 (F := Idealize.ShloMosaic.Ideal) x0 (lidx_main_v20 (ix4 h a r p) d)
        * val_main_v1 (F := Idealize.ShloMosaic.Ideal) x1 (ridx_main_v20 (ix4 h a r p) d)) * Ideal.ofBits .f32 0x3E000000#32 + _ = _
  rw [hs, ofBits_eighth, ← EReal.coe_mul, ← EReal.coe_add]
  rfl

/-- The maximum of a row's scores is a real. -/
theorem ref_max (H : Takes x0 x1 x2 x3 R) (h : Fin 4) (a : Fin 2) (r : Fin 16384) :
    ∃ mx : ℝ, val_main_v66 (F := Idealize.ShloMosaic.Ideal) x0 x1 x3 (ix3 h a r) = (mx : EReal) := by
  obtain ⟨mx, hm⟩ := exists_fold_max fun p => R.score h a r p
  refine ⟨mx, ?_⟩
  have hb : Ideal.ofBits .f32 0xFF800000#32 = (⊥ : EReal) := by simp [Ideal.ofBits, Ideal.ieee]
  have hv : val_main_v64 (F := Idealize.ShloMosaic.Ideal) x0 x1 x3 (ix3 h a r) = (mx : EReal) := by
    unfold val_main_v64
    rw [Host.reduce_eq_fold_single FloatOps.maximumf _ _ reducesTo_S4x2x16384x16384_S4x2x16384_d3 (by decide) h_S_, ← hm, ← hb]
    refine Finset.fold_congr fun p _ => ?_
    refine Eq.trans ?_ (ref_score H h a r p)
    refine congrArg (val_main_v63 (F := Idealize.ShloMosaic.Ideal) x0 x1 x3) (funext fun z => ?_)
    match z with
    | ⟨0, _⟩ => rfl
    | ⟨1, _⟩ => rfl
    | ⟨2, _⟩ => rfl
    | ⟨3, _⟩ => rfl
  rw [val_main_v66_apply, val_main_v65_apply, hv]
  show max (Ideal.ofBits .f32 0xFF800000#32) _ = _
  rw [hb]
  exact max_eq_right bot_le

/-- The weight of key `p`. -/
theorem ref_weight (H : Takes x0 x1 x2 x3 R) (h : Fin 4) (a : Fin 2) (r p : Fin 16384) (mx : ℝ)
    (hm : val_main_v66 (F := Idealize.ShloMosaic.Ideal) x0 x1 x3 (ix3 h a r) = (mx : EReal)) :
    val_main_v74 (F := Idealize.ShloMosaic.Ideal) x0 x1 x3 (ix4 h a r p)
      = ((Real.exp (R.score h a r p - mx) / ∑ p, Real.exp (R.score h a r p - mx) : ℝ) : EReal) := by
  have he : ∀ p, val_main_v70 (F := Idealize.ShloMosaic.Ideal) x0 x1 x3 (ix4 h a r p) = ((Real.exp (R.score h a r p - mx) : ℝ) : EReal) := by
    intro p
    rw [val_main_v70_apply, val_main_v69_apply, val_main_v68_apply, val_main_v67_apply, ref_score H]
    have : idx_main_v67 (idx_main_v68 (ix4 h a r p)) = ix3 h a r := funext fun z => match z with
      | ⟨0, _⟩ => rfl
      | ⟨1, _⟩ => rfl
      | ⟨2, _⟩ => rfl
    rw [this, hm]
    show Idealize.ShloMosaic.Ideal.exp (((R.score h a r p : ℝ) : EReal) - (mx : EReal)) = _
    rw [← EReal.coe_sub]
    rfl
  rw [val_main_v74_apply, val_main_v73_apply, val_main_v72_apply, he]
  have h3 : idx_main_v72 (idx_main_v73 (ix4 h a r p)) = ix3 h a r := funext fun z => match z with
      | ⟨0, _⟩ => rfl
      | ⟨1, _⟩ => rfl
      | ⟨2, _⟩ => rfl
  have hs : val_main_v71 (F := Idealize.ShloMosaic.Ideal) x0 x1 x3 (ix3 h a r) = ((∑ p, Real.exp (R.score h a r p - mx) : ℝ) : EReal) := by
    rw [val_main_v71_apply, coe_sum]
    have h0 : val_main_cst_16 (F := Idealize.ShloMosaic.Ideal) (Shape.Idx.first h_S_) = (0 : EReal) := by
      show Ideal.ofBits .f32 0x00000000#32 = _
      simp [Ideal.ofBits, Ideal.ieee]
    rw [h0, zero_add]
    refine Finset.sum_congr rfl fun p _ => ?_
    rw [← he p]
    refine congrArg (val_main_v70 (F := Idealize.ShloMosaic.Ideal) x0 x1 x3) (funext fun z => ?_)
    match z with
    | ⟨0, _⟩ => rfl
    | ⟨1, _⟩ => rfl
    | ⟨2, _⟩ => rfl
    | ⟨3, _⟩ => rfl
  rw [h3, hs]
  have hp : (∑ p, Real.exp (R.score h a r p - mx)) ≠ 0 := (Finset.sum_pos (fun p _ => Real.exp_pos _) Finset.univ_nonempty).ne'
  refine (Ideal.div_coe hp _).trans ?_
  rw [← EReal.coe_mul, mul_one_div]

end Attn
-- ==== Proof.Stores.lean ====
module

public import proofs.«01_k».proof.Proof.Pieces

@[expose] public section

/-! # What a block leaves in the running maximum and in the accumulator -/

set_option maxRecDepth 16384
set_option maxHeartbeats 8000000

open Idealize Idealize.ShloMosaic
open Cert.KernelIdeal Cert.KernelIdeal.Gen

noncomputable section

namespace Attn

/-- What a block stores into the running maximum. -/
def maxs (near : Bool) (k : Vec Ideal S1024x128 .bf16) (t : Vec Ideal S1x1x1024x2048 .f32) (q0 q1 : Vec Ideal S128x2048 .bf16)
    (m : Vec Ideal S2x1x2048 .f32) : List (View.Piece (Elt Ideal) S2x1x2048 .f32) :=
  match near with
  | true => nearMaxs k t q0 q1 m
  | false => farMaxs k t q0 q1 m

/-- What a block stores into the accumulator. -/
def accs (near : Bool) (k : Vec Ideal S1024x128 .bf16) (v : Vec Ideal S144x1024 .bf16) (t : Vec Ideal S1x1x1024x2048 .f32)
    (q0 q1 : Vec Ideal S128x2048 .bf16) (m : Vec Ideal S2x1x2048 .f32) (s : Vec Ideal S2x144x2048 .f32) :
    List (View.Piece (Elt Ideal) S2x144x2048 .f32) :=
  match near with
  | true => nearAccs k v t q0 q1 m s
  | false => farAccs k v t q0 q1 m s

/-- A block leaves `newMax` of its scores in the running maximum and `newAcc` of them in the accumulator. -/
theorem stores (near : Bool) (k : Vec Ideal S1024x128 .bf16) (v : Vec Ideal S144x1024 .bf16) (t : Vec Ideal S1x1x1024x2048 .f32)
    (q0 q1 : Vec Ideal S128x2048 .bf16) (m : Vec Ideal S2x1x2048 .f32) (s : Vec Ideal S2x144x2048 .f32) :
    (∀ L a e q, View.canon (maxs near k t q0 q1 m ++ L) (ix3 a e q) = newMax (scores near k t q0 q1) (shift near t) m a q) ∧
    ∀ L a e q, View.canon (accs near k v t q0 q1 m s ++ L) (ix3 a e q) = newAcc (scores near k t q0 q1) (shift near t) v m s a e q := by
  refine ⟨fun L a e q => ?_, fun L a e q => ?_⟩
  case' refine_1 => have hc := View.cover_of_tiledBy (maxs near k t q0 q1 m) ![1, 1, 256] (by cases near <;> sl_kernel_rfl) (ix3 a e q)
  case' refine_2 => have hc := View.cover_of_tiledBy (accs near k v t q0 q1 m s) ![1, 144, 256] (by cases near <;> sl_kernel_rfl) (ix3 a e q)
  all_goals
    rw [canon_append_of_cover _ _ _ hc]
    cases near
  all_goals
    simp only [maxs, accs, nearMaxs, nearAccs, farMaxs, farAccs] at hc ⊢
    canon_tiles x h using hc
  all_goals
    change (a : ℕ) = _ at h0
    change (e : ℕ) = _ at h1
    have e1 : x 1 = e := Fin.ext h1.symm
    change (q : ℕ) = _ at h2
    rcases fin_two a with ⟨hA, rfl⟩ | ⟨hA, rfl⟩
    all_goals first
      | (exfalso; omega)
      | (open_payloads
         pointwise [newAcc, newMax, scores, shift, nearScore, farScore, pick]
         simp only [e1, ← h2, ofBits_neg_inf]
         try rfl)

end Attn

end
-- ==== Proof.First.lean ====
module

public import proofs.«01_k».proof.Proof.Points
public import proofs.«01_k».proof.Proof.Stores

@[expose] public section

/-! # What the first point of a run leaves -/

set_option maxRecDepth 16384
set_option maxHeartbeats 4000000

open Idealize Idealize.ShloMosaic
open Cert.KernelIdeal Cert.KernelIdeal.Gen

namespace Attn

variable (m : (ℓ : Loc nD τ sig) → Buf (Elt Ideal) ℓ) (c : Dev nD)

/-- The scratch after the first point of a run. -/
theorem point_first (near : Bool) (t : Fin cfg0.N) (hn : near = true ↔ Near t.val) (h0 : t.val % 16 = 0) :
    (outs m c t).2.1 = k0_pay2 (iblk m c 0 t) ∧ (outs m c t).2.2.1 = k0_pay3 (iblk m c 0 t) ∧
    (∀ a q, (outs m c t).2.2.2.1 (ix3 a 0 q) = newMax (scores near (iblk m c 1 t) (iblk m c 3 t) (k0_pay2 (F := Ideal) (iblk m c 0 t))
      (k0_pay3 (F := Ideal) (iblk m c 0 t))) (shift near (iblk m c 3 t)) (k0_pay4 (F := Ideal)) a q) ∧
    ∀ a e q, (outs m c t).2.2.2.2 (ix3 a e q) = newAcc (scores near (iblk m c 1 t) (iblk m c 3 t) (k0_pay2 (F := Ideal) (iblk m c 0 t))
      (k0_pay3 (F := Ideal) (iblk m c 0 t))) (shift near (iblk m c 3 t)) (iblk m c 2 t) (k0_pay4 (F := Ideal)) (k0_pay5 (F := Ideal)) a e q := by
  have hs := stores near
  cases near
  case' true =>
    have h2 := hn.mp rfl
    have h := outsAt0_A m c t h0 (not_not.mpr h2) h2 (by omega)
  case' false =>
    have h1 : ¬Near t.val := fun h => Bool.noConfusion (hn.mpr h)
    have h := outsAt0_E m c t h0 h1 h1 (by omega)
  all_goals
    refine ⟨?_, ?_, fun a q => ?_, fun a e q => ?_⟩
    all_goals rw [outs, h]
    · funext y
      frame_open
      frame_out
    · funext y
      frame_open
      frame_out
    · frame_open
      simp (disch := decide) only [↓View.readCov_skip, ↓View.readCov_cons_toLoadRect, ↓View.readCov_fill]
      frame_out
      exact (hs _ default _ _ _ _ default).1 [_] a 0 q
    · frame_open
      simp (disch := decide) only [↓View.readCov_skip, ↓View.readCov_cons_toLoadRect, ↓View.readCov_fill]
      frame_out
      exact (hs _ _ _ _ _ _ _).2 [_] a e q

end Attn
-- ==== Proof.Mid.lean ====
module

public import proofs.«01_k».proof.Proof.Points
public import proofs.«01_k».proof.Proof.Stores

@[expose] public section

/-! # What a point inside a run leaves -/

set_option maxRecDepth 16384
set_option maxHeartbeats 4000000

open Idealize Idealize.ShloMosaic
open Cert.KernelIdeal Cert.KernelIdeal.Gen

namespace Attn

variable (m : (ℓ : Loc nD τ sig) → Buf (Elt Ideal) ℓ) (c : Dev nD)

/-- The scratch after a point inside a run. -/
theorem point_mid (near : Bool) (t : Fin cfg0.N) (hn : near = true ↔ Near t.val) (h0 : ¬t.val % 16 = 0) (h3 : ¬t.val % 16 = 15) :
    (outs m c t).2.1 = (prev m c t).2.1 ∧ (outs m c t).2.2.1 = (prev m c t).2.2.1 ∧
    (∀ a q, (outs m c t).2.2.2.1 (ix3 a 0 q) = newMax (scores near (iblk m c 1 t) (iblk m c 3 t) (prev m c t).2.1 (prev m c t).2.2.1)
      (shift near (iblk m c 3 t)) (prev m c t).2.2.2.1 a q) ∧
    ∀ a e q, (outs m c t).2.2.2.2 (ix3 a e q) = newAcc (scores near (iblk m c 1 t) (iblk m c 3 t) (prev m c t).2.1 (prev m c t).2.2.1)
      (shift near (iblk m c 3 t)) (iblk m c 2 t) (prev m c t).2.2.2.1 (prev m c t).2.2.2.2 a e q := by
  have hs := stores near
  cases near
  case' true =>
    have h2 := hn.mp rfl
    have h := outsAt0_B m c t h0 (not_not.mpr h2) h2 h3
  case' false =>
    have h1 : ¬Near t.val := fun h => Bool.noConfusion (hn.mpr h)
    have h := outsAt0_C m c t h0 h1 h1 h3
  all_goals
    refine ⟨?_, ?_, fun a q => ?_, fun a e q => ?_⟩
    all_goals rw [outs, h]
    · rfl
    · rfl
    · frame_open
      simp (disch := decide) only [↓View.readCov_skip, ↓View.readCov_cons_toLoadRect, ↓View.readCov_fill]
      frame_out
      simp only [read_unread_whole]
      exact (hs _ default _ _ _ _ default).1 [] a 0 q
    · frame_open
      simp (disch := decide) only [↓View.readCov_skip, ↓View.readCov_cons_toLoadRect, ↓View.readCov_fill]
      frame_out
      simp only [read_unread_whole]
      exact (hs _ _ _ _ _ _ _).2 [] a e q

end Attn
-- ==== Proof.Final.lean ====
module

public import proofs.«01_k».proof.Proof.Step

@[expose] public section

/-! # What the last block of keys stores

The two quotients, their difference with the factor from `lam_p`, the root mean square and the gain. -/

set_option maxRecDepth 16384
set_option maxHeartbeats 2000000

open Idealize Idealize.ShloMosaic
open Cert.KernelIdeal Cert.KernelIdeal.Gen

noncomputable section

namespace Attn

/-- The factor of the second map. -/
def lamVal (l : (⟨2, ![4, 64]⟩ : Shape).Idx → EReal) : EReal :=
  Ideal.exp (∑ d : Fin 64, l (ix2 0 d) * l (ix2 1 d)) - Ideal.exp (∑ d : Fin 64, l (ix2 2 d) * l (ix2 3 d))
    + Ideal.ofBits .f32 0x3E4CCCCD#32

/-- The root mean square of a row `y`, its gain `g` and the constant 0.8. -/
def rmsVal (y : Fin 128 → EReal) (g : EReal) (e : Fin 128) : EReal :=
  y e * Ideal.rsqrt (Ideal.div (∑ d, y d * y d) (Ideal.ofBits .f32 0x43000000#32) + Ideal.ofBits .f32 0x358637BD#32)
    * g * Ideal.ofBits .f32 0x3F4CCCCD#32

/-- The difference of the two maps, from the accumulators, whose row 128 holds the denominators. -/
def diffVal (l : (⟨2, ![4, 64]⟩ : Shape).Idx → EReal) (A : Fin 2 → Fin 144 → EReal) (e : Fin 128) : EReal :=
  Ideal.div (A 0 ⟨e, by omega⟩) (A 0 ⟨128, by omega⟩) - lamVal l * Ideal.div (A 1 ⟨e, by omega⟩) (A 1 ⟨128, by omega⟩)

/-- The block of the result. -/
theorem finish (l : Vec Ideal S4x64 .f32) (g : Vec Ideal S1x128 .f32) (A0 A1 : Vec Ideal S1x144x2048 .f32)
    (A : Fin 2 → Fin 144 → EReal) (q : Fin 2048) (e : Fin 128) (h0 : ∀ e, A0 (ix3 0 e q) = A 0 e)
    (h1 : ∀ e, A1 (ix3 0 e q) = A 1 e) :
    k0_pay10 (k0_pay132 l A0 A1) (k0_pay133 g) (ix2 q e) = rmsVal (diffVal l A) (g (ix2 0 e)) e := by
  simp only [rmsVal, diffVal, ← h0, ← h1]
  open_payloads
  pointwise [lamVal]

end Attn

end
-- ==== Proof.Last.lean ====
module

public import proofs.«01_k».proof.Proof.Points
public import proofs.«01_k».proof.Proof.Stores
public import proofs.«01_k».proof.Proof.Final

@[expose] public section

/-! # What the last point of a run stores -/

set_option maxRecDepth 16384
set_option maxHeartbeats 4000000

open Idealize Idealize.ShloMosaic
open Cert.KernelIdeal Cert.KernelIdeal.Gen

namespace Attn

variable (m : (ℓ : Loc nD τ sig) → Buf (Elt Ideal) ℓ) (c : Dev nD)

/-- The block of the result the last point of a run stores. -/
theorem point_last (near : Bool) (t : Fin cfg0.N) (hn : near = true ↔ Near t.val) (h3 : t.val % 16 = 15) (q : Fin 2048) (e : Fin 128) :
    (outs m c t).1 (ix2 q e) = rmsVal (diffVal (iblk m c 4 t) fun a e => newAcc (scores near (iblk m c 1 t) (iblk m c 3 t) (prev m c t).2.1
      (prev m c t).2.2.1) (shift near (iblk m c 3 t)) (iblk m c 2 t) (prev m c t).2.2.2.1 (prev m c t).2.2.2.2 a e q)
      (iblk m c 5 t (ix2 0 e)) e := by
  have hs := stores near
  cases near
  case' true =>
    have h2 := hn.mp rfl
    have h := outsAt0_F m c t (by omega) (not_not.mpr h2) h2 h3
  case' false =>
    have h1 : ¬Near t.val := fun h => Bool.noConfusion (hn.mpr h)
    have h := outsAt0_D m c t (by omega) h1 h1 h3
  all_goals
    rw [outs, h]
    frame_open
    simp (disch := decide) only [↓View.readCov_skip (s := S2x1024x768), ↓View.readCov_cons_toLoadRect (s := S2x1024x768)]
    frame_out
    simp only [read_unread_whole]
    refine finish _ _ _ _ _ q e (fun e => ?_) fun e => ?_
    all_goals
      rw [View.readCov_eq_canon']
      refine Eq.trans ?_ ((hs _ _ _ _ _ _ _).2 [] _ e q)
      refine congrArg _ (funext fun d => Fin.ext ?_)
      fin_cases d <;> simp [LoadRect.idx]

end Attn
-- ==== Proof.Runs.lean ====
module

public import proofs.«01_k».proof.Proof.Scores
public import proofs.«01_k».proof.Proof.First
public import proofs.«01_k».proof.Proof.Mid
public import proofs.«01_k».proof.Proof.Last

@[expose] public section

/-! # A run of sixteen key blocks

The scratch holds the queries and the running softmax from block to block; the last block stores the result. -/

set_option maxRecDepth 16384
set_option maxHeartbeats 2000000

open Idealize Idealize.ShloMosaic
open Cert.KernelIdeal Cert.KernelIdeal.Gen

noncomputable section

namespace Attn

/-- The `j`-th block of keys. -/
def nth (j : ℕ) : Fin 16 := ⟨j % 16, Nat.mod_lt _ (by norm_num)⟩

/-- The scores of a row, block by block, in base two. -/
def Args.z (R : Args) (h : Fin 4) (a : Fin 2) (r : Fin 16384) (j : ℕ) (b : Fin 1024) : ℝ := R.score h a r (key (nth j) b) / Real.log 2

/-- The values of a head, block by block, with ones from row 128 on. -/
def Args.vals (R : Args) (h : Fin 4) (e : Fin 144) (j : ℕ) (b : Fin 1024) : ℝ :=
  if he : e.val < 128 then R.v (key (nth j) b) ⟨128 * h.val + e.val, by omega⟩ else 1

variable {m : (ℓ : Loc nD τ sig) → Buf (Elt Ideal) ℓ} {c : Dev nD} {R : Args}

theorem kblock_eq (t : Fin cfg0.N) : kblock t = nth (t.val % 16) := Fin.ext (by simp only [kblock, nth]; omega)

/-- One block of keys. -/
theorem step (H : Holds m c R) (near : Bool) (t t' : Fin cfg0.N) (ht : t'.val / 16 = t.val / 16) (hn : near = true ↔ Near t.val) (a : Fin 2)
    (q : Fin 2048) (M : (⟨3, ![2, 1, 2048]⟩ : Shape).Idx → EReal) (A : (⟨3, ![2, 144, 2048]⟩ : Shape).Idx → EReal)
    (h : Held (R.z (head t) a (row t q)) (R.vals (head t)) (t.val % 16) (M (ix3 a 0 q)) fun e => A (ix3 a e q)) :
    Held (R.z (head t) a (row t q)) (R.vals (head t)) (t.val % 16 + 1)
      (newMax (scores near (iblk m c 1 t) (iblk m c 3 t) (k0_pay2 (F := Ideal) (iblk m c 0 t')) (k0_pay3 (F := Ideal) (iblk m c 0 t')))
        (shift near (iblk m c 3 t)) M a q)
      fun e => newAcc (scores near (iblk m c 1 t) (iblk m c 3 t) (k0_pay2 (F := Ideal) (iblk m c 0 t')) (k0_pay3 (F := Ideal) (iblk m c 0 t')))
        (shift near (iblk m c 3 t)) (iblk m c 2 t) M A a e q := by
  obtain ⟨kc, h1, h2⟩ : ∃ kc : ℝ, shift near (iblk m c 3 t) = (kc : EReal) ∧ ∀ b,
      scores near (iblk m c 1 t) (iblk m c 3 t) (k0_pay2 (F := Ideal) (iblk m c 0 t')) (k0_pay3 (F := Ideal) (iblk m c 0 t')) a q b
        = ((R.score (head t) a (row t q) (key (kblock t) b) / Real.log 2 - kc : ℝ) : EReal) := by
    cases near
    · exact ⟨_, corner_real H t, away_real H t t' ht (fun h => Bool.noConfusion (hn.mpr h)) a q⟩
    · exact ⟨0, EReal.coe_zero.symm, near_real H t t' ht (hn.mp rfl) a q⟩
  rw [h1]
  refine h.step (scores near (iblk m c 1 t) (iblk m c 3 t) (k0_pay2 (F := Ideal) (iblk m c 0 t')) (k0_pay3 (F := Ideal) (iblk m c 0 t')) a q) kc
    (fun e b => iblk m c 2 t (ix2 e b)) (fun b => ?_) (fun e b => ?_) ?_ fun e => ?_
  · rw [h2, kblock_eq]
    rfl
  · rw [value_real H, kblock_eq]
    rfl
  · rfl
  · rfl

/-- Whether a block is near the diagonal, as a truth value. -/
theorem exists_near (n : ℕ) : ∃ near : Bool, near = true ↔ Near n := ⟨decide (Near n), decide_eq_true_iff⟩

/-- What the scratch holds after a point that is not the last of its run. -/
def Ran (m : (ℓ : Loc nD τ sig) → Buf (Elt Ideal) ℓ) (c : Dev nD) (R : Args) (t : Fin cfg0.N) : Prop :=
  ∃ t' : Fin cfg0.N, t'.val / 16 = t.val / 16 ∧ (outs m c t).2.1 = k0_pay2 (iblk m c 0 t') ∧ (outs m c t).2.2.1 = k0_pay3 (iblk m c 0 t') ∧
    ∀ a q, Held (R.z (head t) a (row t q)) (R.vals (head t)) (t.val % 16 + 1) ((outs m c t).2.2.2.1 (ix3 a 0 q))
      fun e => (outs m c t).2.2.2.2 (ix3 a e q)

theorem ran_first (H : Holds m c R) (t : Fin cfg0.N) (h0 : t.val % 16 = 0) : Ran m c R t := by
  have hi : ∀ a q, Held (R.z (head t) a (row t q)) (R.vals (head t)) (t.val % 16) (k0_pay4 (F := Ideal) (ix3 a 0 q))
      fun e => k0_pay5 (F := Ideal) (ix3 a e q) := fun a q => by
    rw [h0]
    exact Held.init _ _ (pay4_apply a q) fun e => pay5_apply a e q
  obtain ⟨near, hn⟩ := exists_near t.val
  obtain ⟨h1, h2, h3, h4⟩ := point_first m c near t hn h0
  refine ⟨t, rfl, h1, h2, fun a q => ?_⟩
  rw [h3, funext fun e => h4 a e q]
  exact step H near t t rfl hn a q _ _ (hi a q)

/-- What a point finds, in the terms of its own run. -/
theorem held_prev (n : ℕ) (hn : n + 1 < cfg0.N) (h0 : ¬(n + 1) % 16 = 0) (h : Ran m c R ⟨n, Nat.lt_of_succ_lt hn⟩) :
    ∃ t' : Fin cfg0.N, t'.val / 16 = (n + 1) / 16 ∧ (prev m c ⟨n + 1, hn⟩).2.1 = k0_pay2 (iblk m c 0 t') ∧
      (prev m c ⟨n + 1, hn⟩).2.2.1 = k0_pay3 (iblk m c 0 t') ∧
      ∀ a q, Held (R.z (head ⟨n + 1, hn⟩) a (row ⟨n + 1, hn⟩ q)) (R.vals (head ⟨n + 1, hn⟩)) ((n + 1) % 16)
        ((prev m c ⟨n + 1, hn⟩).2.2.2.1 (ix3 a 0 q)) fun e => (prev m c ⟨n + 1, hn⟩).2.2.2.2 (ix3 a e q) := by
  obtain ⟨t', e, h1, h2, h3⟩ := h
  have e1 : head ⟨n + 1, hn⟩ = head ⟨n, Nat.lt_of_succ_lt hn⟩ := Fin.ext (by simp only [head]; omega)
  have e2 : ∀ q, row ⟨n + 1, hn⟩ q = row ⟨n, Nat.lt_of_succ_lt hn⟩ q := fun q => Fin.ext (by simp only [row]; omega)
  have e3 : (n + 1) % 16 = n % 16 + 1 := by omega
  refine ⟨t', by simp only at e; omega, h1, h2, fun a q => ?_⟩
  rw [e1, e2, e3]
  exact h3 a q

theorem ran (H : Holds m c R) : ∀ (n : ℕ) (hn : n < cfg0.N), ¬n % 16 = 15 → Ran m c R ⟨n, hn⟩
  | 0, hn, _ => ran_first H ⟨0, hn⟩ rfl
  | n + 1, hn, h15 => by
    by_cases h0 : (n + 1) % 16 = 0
    · exact ran_first H ⟨n + 1, hn⟩ h0
    obtain ⟨t', e, g1, g2, g3⟩ := held_prev n hn h0 (ran H n (Nat.lt_of_succ_lt hn) (by omega))
    obtain ⟨near, hb⟩ := exists_near (n + 1)
    obtain ⟨h1, h2, h3, h4⟩ := point_mid m c near ⟨n + 1, hn⟩ hb h0 h15
    refine ⟨t', e, h1.trans g1, h2.trans g2, fun a q => ?_⟩
    rw [h3, funext fun e => h4 a e q, g1, g2]
    exact step H near ⟨n + 1, hn⟩ t' e hb a q _ _ (g3 a q)

/-- The softmax-weighted values of a row, over the blocks, for any shift of the scores. -/
def Args.mix (R : Args) (h : Fin 4) (a : Fin 2) (r : Fin 16384) (mx : ℝ) (e : Fin 144) : ℝ :=
  ∑ j ∈ Finset.range 16, ∑ b, R.vals h e j b * (Real.exp (R.score h a r (key (nth j) b) - mx) /
    ∑ j ∈ Finset.range 16, ∑ b, Real.exp (R.score h a r (key (nth j) b) - mx))

theorem diff_real (l : (⟨2, ![4, 64]⟩ : Shape).Idx → EReal) (h : Fin 4) (r : Fin 16384) (mx : Fin 2 → ℝ)
    (A : Fin 2 → Fin 144 → EReal) (hA : ∀ a, ∃ M, Held (R.z h a r) (R.vals h) 16 M (A a)) (e : Fin 128) :
    diffVal l A e = ((R.mix h 0 r (mx 0) ⟨e, by omega⟩ : ℝ) : EReal) - lamVal l * ((R.mix h 1 r (mx 1) ⟨e, by omega⟩ : ℝ) : EReal) := by
  have hr : ∀ a, Ideal.div (A a ⟨e, by omega⟩) (A a ⟨128, by omega⟩) = ((R.mix h a r (mx a) ⟨e, by omega⟩ : ℝ) : EReal) := fun a =>
    (hA a).choose_spec.ratio (n := 15) (fun j b => R.score h a r (key (nth j) b))
      (fun j b => div_mul_cancel₀ _ (Real.log_pos (by norm_num)).ne') (mx a) ⟨128, by omega⟩
      (fun j b => dif_neg (by simp)) ⟨e, by omega⟩
  unfold diffVal
  rw [hr, hr]

/-- The block the last point of a run stores. -/
theorem stored (H : Holds m c R) (t : Fin cfg0.N) (h15 : t.val % 16 = 15) (q : Fin 2048) (e : Fin 128) (mx : Fin 2 → ℝ) :
    (outs m c t).1 (ix2 q e) = rmsVal (fun e => ((R.mix (head t) 0 (row t q) (mx 0) ⟨e, by omega⟩ : ℝ) : EReal)
      - lamVal (iblk m c 4 t) * ((R.mix (head t) 1 (row t q) (mx 1) ⟨e, by omega⟩ : ℝ) : EReal)) (iblk m c 5 t (ix2 0 e)) e := by
  obtain ⟨n, hn⟩ := t
  obtain _ | n := n
  · simp at h15
  simp only at h15
  obtain ⟨t', e', g1, g2, g3⟩ := held_prev n hn (by omega) (ran H n (Nat.lt_of_succ_lt hn) (by omega))
  obtain ⟨near, hb⟩ := exists_near (n + 1)
  rw [point_last m c near ⟨n + 1, hn⟩ hb h15 q e, g1, g2]
  congr 1
  funext e
  refine diff_real _ _ _ mx _ (fun a => ?_) e
  have := step H near ⟨n + 1, hn⟩ t' e' hb a q _ _ (g3 a q)
  simp only [h15] at this
  exact ⟨_, this⟩

end Attn
-- ==== Proof.RefValue.lean ====
module

public import proofs.«01_k».proof.Proof.RefScores
public import proofs.«01_k».proof.Proof.Runs

@[expose] public section

/-! # The reference's result -/

set_option maxRecDepth 16384
set_option maxHeartbeats 2000000

open Idealize Idealize.ShloMosaic
open Cert.ReferenceIdeal Cert.ReferenceIdeal.Gen Cert.ReferenceIdeal.Read

noncomputable section

namespace Attn

/-- A sum over the keys, block by block. -/
theorem sum_blocks (f : Fin 16384 → ℝ) : ∑ p, f p = ∑ j ∈ Finset.range 16, ∑ b, f (key (nth j) b) := by
  rw [Finset.sum_range, ← (finProdFinEquiv (m := 16) (n := 1024)).sum_comp, Fintype.sum_prod_type]
  refine Finset.sum_congr rfl fun j _ => Finset.sum_congr rfl fun b _ => congrArg f (Fin.ext ?_)
  have : j.val < 16 := j.isLt
  simp only [finProdFinEquiv_apply_val, key, nth]
  omega

/-- The factor of the second map is a real. -/
theorem lam_real (l : (⟨2, ![4, 64]⟩ : Shape).Idx → ℝ) : ∃ x : ℝ, lamVal (fun i => (l i : EReal)) = (x : EReal) := by
  have hb : ∃ b : ℝ, Ideal.ofBits .f32 0x3E4CCCCD#32 = (b : EReal) := by
    refine ⟨(13421773 / 67108864 : ℝ), ?_⟩
    simp [Ideal.ofBits, Ideal.ieee]
    norm_num
    try rw [← EReal.coe_mul]
    try norm_num
  obtain ⟨b, hb⟩ := hb
  have hd : ∀ u w : Fin 4, ∑ d : Fin 64, (l (ix2 u d) : EReal) * (l (ix2 w d) : EReal) = ((∑ d : Fin 64, l (ix2 u d) * l (ix2 w d) : ℝ) : EReal) := by
    intro u w
    rw [coe_sum]
    exact Finset.sum_congr rfl fun d _ => (EReal.coe_mul _ _).symm
  refine ⟨Real.exp (∑ d : Fin 64, l (ix2 0 d) * l (ix2 1 d)) - Real.exp (∑ d : Fin 64, l (ix2 2 d) * l (ix2 3 d)) + b, ?_⟩
  unfold lamVal
  rw [hb, hd, hd, EReal.coe_add, EReal.coe_sub]
  rfl

variable {x0 x1 x2 : (⟨S16384x512, .f32⟩ : BufTy).Contents (Elt Idealize.ShloMosaic.Ideal)}
  {x3 : (⟨S32x16, .f32⟩ : BufTy).Contents (Elt Idealize.ShloMosaic.Ideal)} {R : Args}
  {x4 : (⟨S4x64, .f32⟩ : BufTy).Contents (Elt Idealize.ShloMosaic.Ideal)}

theorem ref_lam (i : S_.Idx) : val_main_v18 (F := Idealize.ShloMosaic.Ideal) x4 i = lamVal x4 := by
  rw [val_main_v18_apply, val_main_v17_apply, val_main_v9_apply, val_main_v16_apply, val_main_v8_apply, val_main_v15_apply]
  have h0 : val_main_cst (F := Idealize.ShloMosaic.Ideal) (Shape.Idx.first h_S_) = (0 : EReal) := by
    show Ideal.ofBits .f32 0x00000000#32 = _
    simp [Ideal.ofBits, Ideal.ieee]
  have h0' : val_main_cst_0 (F := Idealize.ShloMosaic.Ideal) (Shape.Idx.first h_S_) = (0 : EReal) := h0
  have hz : ∀ f : S64.Idx → EReal, ∑ j, f j = ∑ d : Fin 64, f (ix1 d) := fun f => by
    refine (Fintype.sum_equiv (⟨fun d => ix1 d, fun j => j 0, fun _ => rfl, fun j => ?_⟩ : Fin 64 ≃ S64.Idx) _ _ fun _ => rfl).symm
    funext z
    match z with
    | ⟨0, _⟩ => rfl
  have h7 : ∀ d : Fin 64, val_main_v7 (F := Idealize.ShloMosaic.Ideal) x4 (ix1 d) = x4 (ix2 0 d) * x4 (ix2 1 d) := fun d => by
    rw [val_main_v7_apply, val_main_v4_apply, val_main_v6_apply, val_main_v3_apply, val_main_v5_apply]
    have e1 : idx_main_v3 (idx_main_v4 (ix1 d)) = ix2 0 d := funext fun z => match z with
      | ⟨0, _⟩ => rfl
      | ⟨1, _⟩ => Fin.ext (Nat.mod_eq_of_lt d.isLt)
    have e2 : idx_main_v5 (idx_main_v6 (ix1 d)) = ix2 1 d := funext fun z => match z with
      | ⟨0, _⟩ => rfl
      | ⟨1, _⟩ => Fin.ext (Nat.mod_eq_of_lt d.isLt)
    rw [e1, e2]
    rfl
  have h14 : ∀ d : Fin 64, val_main_v14 (F := Idealize.ShloMosaic.Ideal) x4 (ix1 d) = x4 (ix2 2 d) * x4 (ix2 3 d) := fun d => by
    rw [val_main_v14_apply, val_main_v11_apply, val_main_v13_apply, val_main_v10_apply, val_main_v12_apply]
    have e1 : idx_main_v10 (idx_main_v11 (ix1 d)) = ix2 2 d := funext fun z => match z with
      | ⟨0, _⟩ => rfl
      | ⟨1, _⟩ => Fin.ext (Nat.mod_eq_of_lt d.isLt)
    have e2 : idx_main_v12 (idx_main_v13 (ix1 d)) = ix2 3 d := funext fun z => match z with
      | ⟨0, _⟩ => rfl
      | ⟨1, _⟩ => Fin.ext (Nat.mod_eq_of_lt d.isLt)
    rw [e1, e2]
    rfl
  rw [h0, h0', zero_add, zero_add, hz, hz, Finset.sum_congr rfl fun d _ => h7 d, Finset.sum_congr rfl fun d _ => h14 d]
  rfl

/-- The weights of the difference. -/
theorem ref_diff (h : Fin 4) (r p : Fin 16384) :
    val_main_v81 (F := Idealize.ShloMosaic.Ideal) x0 x1 x3 x4 (ix3 h r p)
      = (val_main_v74 (F := Idealize.ShloMosaic.Ideal) x0 x1 x3 (ix4 h 0 r p) : EReal)
        - lamVal x4 * val_main_v74 (F := Idealize.ShloMosaic.Ideal) x0 x1 x3 (ix4 h 1 r p) := by
  rw [val_main_v81_apply, val_main_v80_apply, val_main_v79_apply, ref_lam, val_main_v78_apply, val_main_v77_apply,
    val_main_v76_apply, val_main_v75_apply]
  have e0 : idx_main_v75 (idx_main_v76 (ix3 h r p)) = ix4 h 0 r p := by
    funext z
    match z with
    | ⟨0, _⟩ => exact Fin.ext (by
        show ((h.val * 16384 + r.val) * 16384 + p.val) / 268435456 = h.val
        omega)
    | ⟨1, _⟩ => rfl
    | ⟨2, _⟩ => exact Fin.ext (by
        show ((h.val * 16384 + r.val) * 16384 + p.val) / 16384 % 16384 = r.val
        omega)
    | ⟨3, _⟩ => exact Fin.ext (by
        show ((h.val * 16384 + r.val) * 16384 + p.val) % 16384 = p.val
        omega)
  have e1 : idx_main_v77 (idx_main_v78 (ix3 h r p)) = ix4 h 1 r p := by
    funext z
    match z with
    | ⟨0, _⟩ => exact Fin.ext (by
        show ((h.val * 16384 + r.val) * 16384 + p.val) / 268435456 = h.val
        omega)
    | ⟨1, _⟩ => rfl
    | ⟨2, _⟩ => exact Fin.ext (by
        show ((h.val * 16384 + r.val) * 16384 + p.val) / 16384 % 16384 = r.val
        omega)
    | ⟨3, _⟩ => exact Fin.ext (by
        show ((h.val * 16384 + r.val) * 16384 + p.val) % 16384 = p.val
        omega)
  rw [e0, e1]
  rfl

/-- A row's values under the difference of the two maps. -/
theorem ref_mix (H : Takes x0 x1 x2 x3 R) (l : S4x64.Idx → ℝ) (hl : x4 = fun i => (l i : EReal)) (h : Fin 4) (r : Fin 16384) :
    ∃ mx : Fin 2 → ℝ, ∀ e : Fin 128, val_main_v82 (F := Idealize.ShloMosaic.Ideal) x0 x1 x2 x3 x4 (ix3 h e r)
      = ((R.mix h 0 r (mx 0) ⟨e, by omega⟩ : ℝ) : EReal) - lamVal x4 * ((R.mix h 1 r (mx 1) ⟨e, by omega⟩ : ℝ) : EReal) := by
  choose mx hm using fun a => ref_max H h a r
  obtain ⟨x, hx⟩ := lam_real l
  rw [← hl] at hx
  refine ⟨mx, fun e => ?_⟩
  have hw : ∀ a : Fin 2, R.mix h a r (mx a) ⟨e, by omega⟩
      = ∑ p, R.v p ⟨128 * h.val + e.val, by omega⟩ * (Real.exp (R.score h a r p - mx a) / ∑ p, Real.exp (R.score h a r p - mx a)) := by
    intro a
    rw [sum_blocks, sum_blocks]
    refine Finset.sum_congr rfl fun j _ => Finset.sum_congr rfl fun b _ => ?_
    unfold Args.vals
    rw [dif_pos e.isLt]
  rw [val_main_v82_apply, hx, hw, hw, ← EReal.coe_mul, ← EReal.coe_sub, Finset.mul_sum, ← Finset.sum_sub_distrib, coe_sum]
  refine Finset.sum_congr rfl fun p _ => ?_
  have e2 : idx_main_v2 (lidx_main_v82 (ix3 h e r) p) = ix2 p ⟨128 * h.val + e.val, by omega⟩ := by
    funext z
    match z with
    | ⟨0, _⟩ => exact Fin.ext (by
        show ((p.val * 4 + h.val) * 128 + e.val) / 512 = p.val
        omega)
    | ⟨1, _⟩ => exact Fin.ext (by
        show ((p.val * 4 + h.val) * 128 + e.val) % 512 = 128 * h.val + e.val
        omega)
  have e3 : ridx_main_v82 (ix3 h e r) p = ix3 h r p := funext fun z => match z with
    | ⟨0, _⟩ => rfl
    | ⟨1, _⟩ => rfl
    | ⟨2, _⟩ => rfl
  rw [val_main_v2_apply, e2, e3, H.v, ref_diff, ref_weight H h 0 r p _ (hm 0), ref_weight H h 1 r p _ (hm 1), hx,
    ← EReal.coe_mul, ← EReal.coe_sub, ← EReal.coe_mul]
  congr 1
  ring

/-- An element of the result. -/
theorem ref_value (H : Takes x0 x1 x2 x3 R) (l : S4x64.Idx → ℝ) (hl : x4 = fun i => (l i : EReal))
    (x5 : (⟨S128, .f32⟩ : BufTy).Contents (Elt Idealize.ShloMosaic.Ideal)) (h : Fin 4) (r : Fin 16384) :
    ∃ mx : Fin 2 → ℝ, ∀ e : Fin 128, val_main_v99 (F := Idealize.ShloMosaic.Ideal) x0 x1 x2 x3 x4 x5 (ix2 r ⟨128 * h.val + e.val, by omega⟩)
      = rmsVal (fun e => ((R.mix h 0 r (mx 0) ⟨e, by omega⟩ : ℝ) : EReal)
        - lamVal x4 * ((R.mix h 1 r (mx 1) ⟨e, by omega⟩ : ℝ) : EReal)) (x5 (ix1 e)) e := by
  obtain ⟨mx, hm⟩ := ref_mix H l hl h r
  refine ⟨mx, fun e => ?_⟩
  have e0 : idx_main_v99 (ix2 r ⟨128 * h.val + e.val, by omega⟩) = ix3 r h e := by
    funext z
    match z with
    | ⟨0, _⟩ => exact Fin.ext (by
        show (r.val * 512 + (128 * h.val + e.val)) / 512 = r.val
        omega)
    | ⟨1, _⟩ => exact Fin.ext (by
        show (r.val * 512 + (128 * h.val + e.val)) / 128 % 4 = h.val
        omega)
    | ⟨2, _⟩ => exact Fin.ext (by
        show (r.val * 512 + (128 * h.val + e.val)) % 128 = e.val
        omega)
  have hy : ∀ e : Fin 128, val_main_v83 (F := Idealize.ShloMosaic.Ideal) x0 x1 x2 x3 x4 (ix3 r h e)
      = ((R.mix h 0 r (mx 0) ⟨e, by omega⟩ : ℝ) : EReal) - lamVal x4 * ((R.mix h 1 r (mx 1) ⟨e, by omega⟩ : ℝ) : EReal) := by
    intro e
    rw [val_main_v83_apply, ← hm e]
    refine congrArg (val_main_v82 (F := Idealize.ShloMosaic.Ideal) x0 x1 x2 x3 x4) (funext fun z => ?_)
    match z with
    | ⟨0, _⟩ => rfl
    | ⟨1, _⟩ => rfl
    | ⟨2, _⟩ => rfl
  rw [val_main_v99_apply, e0, val_main_v98_apply, val_main_v96_apply, val_main_v93_apply, val_main_v95_apply, val_main_v94_apply,
    val_main_v92_apply, val_main_v91_apply, val_main_v90_apply, val_main_v88_apply, val_main_v86_apply, val_main_v85_apply,
    val_main_v97_apply, val_main_v89_apply, val_main_v87_apply, hy]
  have h0 : val_main_cst_17 (F := Idealize.ShloMosaic.Ideal) (Shape.Idx.first h_S_) = (0 : EReal) := by
    show Ideal.ofBits .f32 0x00000000#32 = _
    simp [Ideal.ofBits, Ideal.ieee]
  have hs : ∀ k : Fin 128, val_main_v84 (F := Idealize.ShloMosaic.Ideal) x0 x1 x2 x3 x4 (idx_main_v85 (idx_main_v86 (idx_main_v92 (ix3 r h e))) k)
      = (fun y : EReal => y * y) (((R.mix h 0 r (mx 0) ⟨k, by omega⟩ : ℝ) : EReal) - lamVal x4 * ((R.mix h 1 r (mx 1) ⟨k, by omega⟩ : ℝ) : EReal)) := by
    intro k
    rw [val_main_v84_apply, show idx_main_v85 (idx_main_v86 (idx_main_v92 (ix3 r h e))) k = ix3 r h k from funext fun z => match z with
      | ⟨0, _⟩ => rfl
      | ⟨1, _⟩ => rfl
      | ⟨2, _⟩ => rfl, hy]
    rfl
  have e5 : idx_main_v94 (idx_main_v95 (ix3 r h e)) = ix1 e := funext fun z => match z with
    | ⟨0, _⟩ => rfl
  rw [h0, zero_add, Finset.sum_congr rfl fun k _ => hs k, e5]
  rfl

end Attn
-- ==== Proof.Reals.lean ====
module

public import proofs.«01_k».proof.Proof.Gen.Pre_finite
public import Idealize.ShloMosaic.PureOps.Ideal.Laws
public import Idealize.ShloMosaic.Lib.ReduceAll

@[expose] public section

/-! # The arguments as arrays of real numbers

The precondition says that no entry of the queries, keys, values, bias table and `lam_p` is infinite. -/

open Idealize Idealize.ShloMosaic

namespace Attn

/-- An entry whose absolute value is below infinity is a real number. -/
theorem real_of_abs {x : EReal} (h : FloatOps.cmpf (F := Ideal) (φ := .f32) .olt (max x (-x)) ⊤ = 1#1) : ∃ r : ℝ, x = r := by
  have h' : max x (-x) < ⊤ := by
    by_contra hn
    rw [Ideal.cmpf_def] at h
    simp [Ideal.cmp, hn] at h
  induction x with
  | bot => simp at h'
  | top => simp at h'
  | coe r => exact ⟨r, rfl⟩

/-- An array that passes the test is an array of real numbers. -/
theorem reals_of_reduce {s t u : Shape} [Subsingleton t.Idx] {axes : List (Fin s.rank)} (x : FVec Ideal s .f32) (y : FVec Ideal s .f32)
    (hy : ∀ i, y i = (⊤ : EReal)) (init : u.Idx → BitVec 1) (h : s.ReducesTo axes t) (hu : 0 < u.numel)
    (j : t.Idx) (e : Host.reduce IntOp.andi (cmpf .olt (Host.absf x) y) init h hu j = 1#1) :
    ∃ r : s.Idx → ℝ, x = fun i => (r i : EReal) := by
  have hx : ∀ i, ∃ r : ℝ, x i = r := fun i => by
    have := Host.reduce_andi_all _ _ h hu j e i
    apply real_of_abs
    rw [← hy i]
    exact this
  choose r hr using hx
  exact ⟨r, funext hr⟩

/-- The precondition, read. -/
theorem reals_of_finite {q k v : FVec Ideal Cert.Pre_finite.S16384x512 .f32} {b : FVec Ideal Cert.Pre_finite.S32x16 .f32}
    {l : FVec Ideal Cert.Pre_finite.S4x64 .f32} {g : FVec Ideal Cert.Pre_finite.S128 .f32}
    (h : Cert.Pre_finite.fn (F := Ideal) q k v b l g = fun _ => 1#1) :
    (∃ r : _ → ℝ, q = fun i => (r i : EReal)) ∧ (∃ r : _ → ℝ, k = fun i => (r i : EReal)) ∧
    (∃ r : _ → ℝ, v = fun i => (r i : EReal)) ∧ (∃ r : _ → ℝ, b = fun i => (r i : EReal)) ∧
    ∃ r : _ → ℝ, l = fun i => (r i : EReal) := by
  have h0 := congrFun h (fun a => a.elim0)
  have ht : Ideal.ofBits FTy.f32 0x7F800000#32 = (⊤ : EReal) := by simp [Ideal.ofBits, Ideal.ieee]
  have hs : Subsingleton Cert.Pre_finite.S_.Idx := ⟨fun a b => funext fun d => d.elim0⟩
  unfold Cert.Pre_finite.fn Cert.Pre_finite.fn_part1 at h0
  have h1 := IntOp.andi_eq_one.1 h0
  have h2 := IntOp.andi_eq_one.1 h1.1
  have h3 := IntOp.andi_eq_one.1 h2.1
  have h4 := IntOp.andi_eq_one.1 h3.1
  exact ⟨reals_of_reduce _ _ (fun _ => ht) _ _ _ _ h4.1, reals_of_reduce _ _ (fun _ => ht) _ _ _ _ h4.2,
    reals_of_reduce _ _ (fun _ => ht) _ _ _ _ h3.2, reals_of_reduce _ _ (fun _ => ht) _ _ _ _ h2.2,
    reals_of_reduce _ _ (fun _ => ht) _ _ _ _ h1.2⟩

end Attn
-- ==== Proof.Result.lean ====
module

public import proofs.«01_k».proof.Proof.RefValue
public import proofs.«01_k».proof.Proof.Reals
public import Idealize.ShloMosaic.Lib.Pipeline.ValueKit

@[expose] public section

/-! # The array the launch leaves is the reference's result -/

set_option maxRecDepth 16384
set_option maxHeartbeats 2000000

open Idealize Idealize.ShloMosaic Idealize.ShloMosaic.TcCoe Idealize.SL.Sem
open Cert.KernelIdeal Cert.KernelIdeal.Gen

noncomputable section

namespace Attn

variable (m : (ℓ : Loc nD τ sig) → Buf (Elt Ideal) ℓ) (c : Dev nD)

/-- The reference's result, of the kernel's arguments. -/
def wanted : (⟨2, ![16384, 512]⟩ : Shape).Idx → EReal :=
  Cert.ReferenceIdeal.Read.val_main_v99 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

variable {m c}

/-- The block a run leaves, entry by entry. -/
theorem block (hp : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1)
    (t : Fin cfg0.N) (h15 : t.val % 16 = 15) (q : Fin 2048) (e : Fin 128) :
    (outs m c t).1 (ix2 q e) = wanted m c (ix2 (row t q) ⟨128 * (head t).val + e.val, by omega⟩) := by
  obtain ⟨⟨rq, hq⟩, ⟨rk, hk⟩, ⟨rv, hv⟩, ⟨rb, hb⟩, ⟨rl, hl⟩⟩ := reals_of_finite hp
  let R : Args := ⟨fun r d => rq (ix2 r d), fun r d => rk (ix2 r d), fun r d => rv (ix2 r d), fun r h => rb (ix2 r h)⟩
  have H : Holds m c R := ⟨fun r d => congrFun hq (ix2 r d), fun r d => congrFun hk (ix2 r d), fun r d => congrFun hv (ix2 r d),
    fun r h => congrFun hb (ix2 r h)⟩
  have T : Takes (m ((c : Thread nD τ).loc main_arg0)) (m ((c : Thread nD τ).loc main_arg1)) (m ((c : Thread nD τ).loc main_arg2))
      (m ((c : Thread nD τ).loc main_arg3)) R := ⟨fun r d => congrFun hq (ix2 r d), fun r d => congrFun hk (ix2 r d),
    fun r d => congrFun hv (ix2 r d), fun r h => congrFun hb (ix2 r h)⟩
  obtain ⟨mx, hm⟩ := ref_value T rl hl (m ((c : Thread nD τ).loc main_arg5)) (head t) (row t q)
  have hlam : lamVal (iblk m c 4 t) = lamVal (m ((c : Thread nD τ).loc main_arg4)) := by
    simp only [lamVal, blk_l]
  rw [stored H t h15 q e mx, hlam, blk_g, host_g]
  exact (hm e).symm

/-- The array after the run. -/
theorem array (hp : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    (dats m 0 c).arrAt 6 cfg0.N = wanted m c := by
  refine (dats m 0 c).arrAt_eq_of_covers 6 _ (by decide +kernel) fun t hf y => ?_
  have h15 : t.val % 16 = 15 := (flush0_6 t).1 hf
  blk_simp
  rw [after0_6]
  have e : y = ix2 (y 0) (y 1) := funext fun z => match z with
    | ⟨0, _⟩ => rfl
    | ⟨1, _⟩ => rfl
  refine Eq.trans ?_ ((block hp t h15 (y 0) (y 1)).trans ?_)
  · exact congrArg (outs m c t).1 e
  · refine congrArg (wanted m c) (funext fun z => ?_)
    match z with
    | ⟨0, _⟩ =>
      refine Fin.ext ?_
      blk_simp [idx t]
      exact congrArg₂ (· + ·) (Nat.mul_comm _ _) rfl
    | ⟨1, _⟩ =>
      refine Fin.ext ?_
      blk_simp [idx t]
      exact congrArg₂ (· + ·) (Nat.mul_comm _ _) rfl

end Attn
-- ==== Proof.Rows.lean ====
module

public import Idealize.ShloMosaic.Lib.Pipeline.ValueKit

@[expose] public section

/-! # A normed row

The root mean square norm of a row of 1024 entries, with its gain. -/

open Idealize Idealize.ShloMosaic

noncomputable section

namespace Rows

/-- The normed row `x` with the gain `g`. -/
def normed (x g : Fin 1024 → EReal) (d : Fin 1024) : EReal :=
  x d * Ideal.rsqrt (Ideal.div (∑ k, x k * x k) (Ideal.ofBits .f32 0x44800000#32) + Ideal.ofBits .f32 0x358637BD#32) * g d

/-- The square of the positive part of a row's product with column `w`. -/
def act (h w : Fin 1024 → EReal) : EReal :=
  max (∑ d, h d * w d) 0 * max (∑ d, h d * w d) 0

/-- The bit pattern of zero reads as zero. -/
theorem ofBits_zero : Ideal.ofBits FTy.f32 0x00000000#32 = (0 : EReal) := by simp [Ideal.ofBits, Ideal.ieee]

end Rows
-- ==== Proof.MlpPoint.lean ====
module

public import proofs.«01_k».proof.Proof.Gen.Kernel2Ideal.Value
public import proofs.«01_k».proof.Proof.Rows
public import Idealize.ShloMosaic.Lib.Pipeline.ReadBack

@[expose] public section

/-! # The feed-forward part: what the two points of a run leave

The first point norms the block of rows and starts the sum with the first half of the hidden columns; the second adds the
other half and the rows themselves. -/

set_option maxRecDepth 16384
set_option maxHeartbeats 2000000

open Idealize Idealize.ShloMosaic
open Cert.Kernel2Ideal Cert.Kernel2Ideal.Gen

noncomputable section

namespace Mlp

/-- The normed block, as the first point stores it. -/
theorem pay_norm (x : Vec Ideal S1024x1024 .f32) (g : Vec Ideal S1x1024 .f32) (r d : Fin 1024) :
    k0_pay1 x g (ix2 r d) = Rows.normed (fun k => x (ix2 r k)) (fun k => g (ix2 0 k)) d := by
  open_payloads
  pointwise [Rows.normed]

/-- The sum starts with zeros. -/
theorem pay_zero (r n : Fin 1024) : k0_pay2 (F := Ideal) (ix2 r n) = 0 := by
  open_payloads
  pointwise [Rows.ofBits_zero]

/-- One half of the hidden columns, added to the sum `a`. -/
theorem pay_half (h : Vec Ideal S1024x1024 .bf16) (u : Vec Ideal S1024x2048 .bf16) (a : Vec Ideal S1024x1024 .f32)
    (w : Vec Ideal S2048x1024 .bf16) (r n : Fin 1024) :
    k0_pay3 h u a w (ix2 r n)
      = a (ix2 r n) + ∑ f : Fin 2048, Rows.act (fun d => h (ix2 r d)) (fun d => u (ix2 d f)) * w (ix2 f n) := by
  open_payloads
  pointwise [Rows.act, Rows.ofBits_zero]

/-- The rows and the sum. -/
theorem pay_last (x a : Vec Ideal S1024x1024 .f32) (r n : Fin 1024) : k0_pay4 x a (ix2 r n) = x (ix2 r n) + a (ix2 r n) := by
  open_payloads
  pointwise []

variable (m : (ℓ : Loc nD τ sig) → Buf (Elt Ideal) ℓ) (c : Dev nD)

/-- What the scratch holds after the first point of a run. -/
theorem point_first (t : Fin cfg0.N) (h0 : t.val % 2 = 0) :
    (outsAt0 m c t.val t.isLt).2.1 = k0_pay1 (iblk m c 0 t) (iblk m c 1 t)
    ∧ (outsAt0 m c t.val t.isLt).2.2 = k0_pay3 (k0_pay1 (F := Ideal) (iblk m c 0 t) (iblk m c 1 t)) (iblk m c 2 t)
        (k0_pay2 (F := Ideal)) (iblk m c 3 t) := by
  have h := outsAt0_A m c t h0 (by omega)
  refine ⟨?_, ?_⟩
  all_goals rw [h]
  · funext y
    frame_open
    frame_out
  · funext y
    frame_open
    frame_out

/-- What the second point of a run stores. -/
theorem point_second (t : Fin cfg0.N) (h1 : t.val % 2 = 1) :
    (outsAt0 m c t.val t.isLt).1 = k0_pay4 (iblk m c 0 t) (k0_pay3
        (outsAt0 m c (t.val - 1) (Nat.lt_of_le_of_lt (Nat.sub_le _ _) t.isLt)).2.1 (iblk m c 2 t)
        (outsAt0 m c (t.val - 1) (Nat.lt_of_le_of_lt (Nat.sub_le _ _) t.isLt)).2.2 (iblk m c 3 t)) := by
  have h := outsAt0_B m c t (by omega) h1
  rw [h]
  funext y
  frame_open
  frame_out
  simp only [read_unread_whole]

end Mlp

end
-- ==== Proof.MlpEntry.lean ====
module

public import proofs.«01_k».proof.Proof.MlpPoint
public import Idealize.ShloMosaic.Lib.StableHlo.ReadAt

@[expose] public section

/-! # The feed-forward part: what each point is handed -/

set_option maxRecDepth 16384
set_option maxHeartbeats 2000000

open Idealize Idealize.ShloMosaic Idealize.ShloMosaic.TcCoe
open Cert.Kernel2Ideal Cert.Kernel2Ideal.Gen

noncomputable section

namespace Mlp

variable (m : (ℓ : Loc nD τ sig) → Buf (Elt Ideal) ℓ) (c : Dev nD)

theorem host_u (d : Fin 1024) (f : Fin 4096) : V m c main_v0 (ix2 d f) = m ((c : Thread nD τ).loc main_arg2) (ix2 d f) := by
  simp only [V, hostOps0]
  after_reads_at
  try rfl

theorem host_w (f : Fin 4096) (n : Fin 1024) : V m c main_v1 (ix2 f n) = m ((c : Thread nD τ).loc main_arg3) (ix2 f n) := by
  simp only [V, hostOps0]
  after_reads_at
  try rfl

theorem host_g (d : Fin 1024) : V m c main_v2 (ix2 0 d) = m ((c : Thread nD τ).loc main_arg1) (ix1 d) := by
  simp only [V, hostOps0]
  after_reads_at
  try rfl

/-- Which block each window takes at a grid point. -/
theorem idx : ∀ t : Fin cfg0.N,
    win0_0.index t = ![t.val / 2, 0] ∧ win0_1.index t = ![0, 0] ∧ win0_2.index t = ![0, t.val % 2]
    ∧ win0_3.index t = ![t.val % 2, 0] ∧ win0_4.index t = ![t.val / 2, 0] := by decide +kernel

theorem t_lt (t : Fin cfg0.N) : t.val < 32 := t.isLt

/-- The row of the arrays that row `r` of a point's block is. -/
abbrev row (t : Fin cfg0.N) (r : Fin 1024) : Fin 16384 := ⟨1024 * (t.val / 2) + r.val, by have := t_lt t; omega⟩

/-- The hidden column that column `f` of a point's half is. -/
abbrev hid (t : Fin cfg0.N) (f : Fin 2048) : Fin 4096 := ⟨2048 * (t.val % 2) + f.val, by omega⟩

theorem blk_x (t : Fin cfg0.N) (r d : Fin 1024) : iblk m c 0 t (ix2 r d)
    = m ((c : Thread nD τ).loc main_arg0) (ix2 (row t r) d) := by
  have := t_lt t
  rw [← V_main_arg0 m c]
  blk_ext [iblk, V, idx t]

theorem blk_g (t : Fin cfg0.N) (d : Fin 1024) : iblk m c 1 t (ix2 0 d) = m ((c : Thread nD τ).loc main_arg1) (ix1 d) := by
  rw [← host_g m c]
  blk_ext [iblk, V, idx t]

theorem blk_u (t : Fin cfg0.N) (d : Fin 1024) (f : Fin 2048) : iblk m c 2 t (ix2 d f)
    = m ((c : Thread nD τ).loc main_arg2) (ix2 d (hid t f)) := by
  rw [← host_u m c]
  blk_ext [iblk, V, idx t]

theorem blk_w (t : Fin cfg0.N) (f : Fin 2048) (n : Fin 1024) : iblk m c 3 t (ix2 f n)
    = m ((c : Thread nD τ).loc main_arg3) (ix2 (hid t f) n) := by
  rw [← host_w m c]
  blk_ext [iblk, V, idx t]

end Mlp

end
-- ==== Proof.MlpResult.lean ====
module

public import proofs.«01_k».proof.Proof.MlpEntry
public import proofs.«01_k».proof.Proof.Gen.Reference2Ideal.Read

@[expose] public section

/-! # The feed-forward part: the array the launch leaves is the reference's result -/

set_option maxRecDepth 16384
set_option maxHeartbeats 2000000

open Idealize Idealize.ShloMosaic Idealize.ShloMosaic.TcCoe Idealize.SL.Sem
open Cert.Kernel2Ideal Cert.Kernel2Ideal.Gen

noncomputable section

namespace Mlp

/-- The result at row `r` and column `n`: the row and its hidden columns' sum. -/
def value (x : (⟨2, ![16384, 1024]⟩ : Shape).Idx → EReal) (g : (⟨1, ![1024]⟩ : Shape).Idx → EReal)
    (u : (⟨2, ![1024, 4096]⟩ : Shape).Idx → EReal) (w : (⟨2, ![4096, 1024]⟩ : Shape).Idx → EReal)
    (r : Fin 16384) (n : Fin 1024) : EReal :=
  x (ix2 r n) + ∑ f : Fin 4096,
    Rows.act (Rows.normed (fun k => x (ix2 r k)) (fun k => g (ix1 k))) (fun d => u (ix2 d f)) * w (ix2 f n)

section Reference

open Cert.Reference2Ideal.Read

/-- The reference's normed rows. -/
theorem ref_norm (x : (⟨2, ![16384, 1024]⟩ : Shape).Idx → EReal) (g : (⟨1, ![1024]⟩ : Shape).Idx → EReal)
    (r : Fin 16384) (d : Fin 1024) :
    val_main_v12 (F := Ideal) x g (ix2 r d) = Rows.normed (fun k => x (ix2 r k)) (fun k => g (ix1 k)) d := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply,
    val_main_cst_apply, val_main_cst_0_apply, val_main_cst_1_apply]
  have eg : idx_main_v10 (idx_main_v11 (ix2 r d)) = ix1 d := funext fun z => match z with
    | ⟨0, _⟩ => rfl
  have ex : ∀ k, idx_main_v1 (idx_main_v2 (idx_main_v8 (ix2 r d))) k = ix2 r k := fun k => funext fun z => match z with
    | ⟨0, _⟩ => rfl
    | ⟨1, _⟩ => rfl
  simp only [eg, ex, val_main_v0_apply]
  show x (ix2 r d) * Ideal.rsqrt (Ideal.div (Ideal.ofBits .f32 0x00000000#32 + ∑ k : Fin 1024, x (ix2 r k) * x (ix2 r k))
    (Ideal.ofBits .f32 0x44800000#32) + Ideal.ofBits .f32 0x358637BD#32) * g (ix1 d) = _
  rw [Rows.ofBits_zero, zero_add]
  rfl

/-- The reference's result. -/
theorem ref_value (x : (⟨2, ![16384, 1024]⟩ : Shape).Idx → EReal) (g : (⟨1, ![1024]⟩ : Shape).Idx → EReal)
    (u : (⟨2, ![1024, 4096]⟩ : Shape).Idx → EReal) (w : (⟨2, ![4096, 1024]⟩ : Shape).Idx → EReal)
    (r : Fin 16384) (n : Fin 1024) : val_main_v17 (F := Ideal) x g u w (ix2 r n) = value x g u w r n := by
  rw [val_main_v17_apply, val_main_v16_apply]
  refine congrArg (x (ix2 r n) + ·) (Finset.sum_congr rfl fun f _ => ?_)
  have el : lidx_main_v16 (ix2 r n) f = ix2 r f := funext fun z => match z with
    | ⟨0, _⟩ => rfl
    | ⟨1, _⟩ => rfl
  have er : ridx_main_v16 (ix2 r n) f = ix2 f n := funext fun z => match z with
    | ⟨0, _⟩ => rfl
    | ⟨1, _⟩ => rfl
  rw [el, er, val_main_v15_apply, val_main_v14_apply, val_main_v13_apply, val_main_call0_v0_apply, val_main_call0_cst_apply]
  have hl : ∀ k, lidx_main_v13 (ix2 r f) k = ix2 r k := fun k => funext fun z => match z with
    | ⟨0, _⟩ => rfl
    | ⟨1, _⟩ => rfl
  have hr : ∀ k, ridx_main_v13 (ix2 r f) k = ix2 k f := fun k => funext fun z => match z with
    | ⟨0, _⟩ => rfl
    | ⟨1, _⟩ => rfl
  simp only [hl, hr, ref_norm]
  show max (∑ k : Fin 1024, Rows.normed (fun k => x (ix2 r k)) (fun k => g (ix1 k)) k * u (ix2 k f)) (Ideal.ofBits .f32 0x00000000#32)
    * max (∑ k : Fin 1024, Rows.normed (fun k => x (ix2 r k)) (fun k => g (ix1 k)) k * u (ix2 k f)) (Ideal.ofBits .f32 0x00000000#32)
    * w (ix2 f n) = _
  rw [Rows.ofBits_zero]
  rfl

end Reference

/-- A sum over the hidden columns, by halves. -/
theorem sum_halves (f : Fin 4096 → EReal) : ∑ k, f k
    = (0 + ∑ k : Fin 2048, f ⟨2048 * 0 + k.val, by omega⟩) + ∑ k : Fin 2048, f ⟨2048 * 1 + k.val, by omega⟩ := by
  rw [zero_add]
  refine (Fin.sum_univ_add (a := 2048) (b := 2048) f).trans (congrArg₂ (· + ·) (Finset.sum_congr rfl fun k _ => congrArg f (Fin.ext ?_))
    (Finset.sum_congr rfl fun k _ => congrArg f (Fin.ext ?_)))
  · simp
  · simp [Nat.add_comm]

variable (m : (ℓ : Loc nD τ sig) → Buf (Elt Ideal) ℓ) (c : Dev nD)

/-- The reference's result, of the kernel's arguments. -/
def wanted : (⟨2, ![16384, 1024]⟩ : Shape).Idx → EReal :=
  Cert.Reference2Ideal.Read.val_main_v17 (F := Ideal) (m ((c : Thread nD τ).loc main_arg0)) (m ((c : Thread nD τ).loc main_arg1))
    (m ((c : Thread nD τ).loc main_arg2)) (m ((c : Thread nD τ).loc main_arg3))

/-- The block a run leaves, entry by entry. -/
theorem block (t : Fin cfg0.N) (h1 : t.val % 2 = 1) (r n : Fin 1024) :
    (outsAt0 m c t.val t.isLt).1 (ix2 r n) = wanted m c (ix2 (row t r) n) := by
  obtain ⟨s, hs⟩ : ∃ s : Fin cfg0.N, s.val = t.val - 1 := ⟨⟨t.val - 1, Nat.lt_of_le_of_lt (Nat.sub_le _ _) t.isLt⟩, rfl⟩
  obtain ⟨f0, f1⟩ := point_first m c s (by omega)
  have hrow : row s r = row t r := Fin.ext (by show 1024 * (s.val / 2) + r.val = 1024 * (t.val / 2) + r.val; omega)
  have hs0 : s.val % 2 = 0 := by omega
  rw [point_second m c t h1]
  simp only [← hs]
  rw [pay_last, pay_half, f1, f0, pay_half, pay_zero, wanted, ref_value, value, sum_halves, blk_x]
  simp only [pay_norm, blk_x, blk_g, blk_u, blk_w, hrow, hid, h1, hs0]

/-- The array after the run. -/
theorem array : (dats m 0 c).arrAt 4 cfg0.N = wanted m c := by
  refine (dats m 0 c).arrAt_eq_of_covers 4 _ (by decide +kernel) fun t hf y => ?_
  have h1 : t.val % 2 = 1 := (flush0_4 t).1 hf
  blk_simp
  rw [after0_4]
  have e : y = ix2 (y 0) (y 1) := funext fun z => match z with
    | ⟨0, _⟩ => rfl
    | ⟨1, _⟩ => rfl
  refine Eq.trans ?_ ((block m c t h1 (y 0) (y 1)).trans ?_)
  · exact congrArg (outsAt0 m c t.val t.isLt).1 e
  · refine congrArg (wanted m c) (funext fun z => ?_)
    match z with
    | ⟨0, _⟩ =>
      refine Fin.ext ?_
      blk_simp [idx t]
      exact congrArg₂ (· + ·) (Nat.mul_comm _ _) rfl
    | ⟨1, _⟩ =>
      refine Fin.ext ?_
      blk_simp [idx t]
      rfl

end Mlp

end
-- ==== Proof.ProjPoint.lean ====
module

public import proofs.«01_k».proof.Proof.Gen.Kernel3Ideal.Value
public import proofs.«01_k».proof.Proof.Rows
public import Idealize.ShloMosaic.Lib.Pipeline.ReadBack

@[expose] public section

/-! # The input projection: what the points of a run leave

The first point norms the block of rows; every point multiplies the normed rows with its block of columns. -/

set_option maxRecDepth 16384
set_option maxHeartbeats 2000000

open Idealize Idealize.ShloMosaic
open Cert.Kernel3Ideal Cert.Kernel3Ideal.Gen

noncomputable section

namespace Proj

/-- The normed block, as the first point stores it. -/
theorem pay_norm (x : Vec Ideal S2048x1024 .f32) (g : Vec Ideal S1x1024 .f32) (r : Fin 2048) (d : Fin 1024) :
    k0_pay1 x g (ix2 r d) = Rows.normed (fun k => x (ix2 r k)) (fun k => g (ix2 0 k)) d := by
  open_payloads
  pointwise [Rows.normed]

/-- The product with a block of columns. -/
theorem pay_mul (h : Vec Ideal S2048x1024 .bf16) (w : Vec Ideal S1024x1024 .bf16) (r : Fin 2048) (n : Fin 1024) :
    k0_pay2 h w (ix2 r n) = ∑ d : Fin 1024, h (ix2 r d) * w (ix2 d n) := by
  open_payloads
  pointwise []

variable (m : (ℓ : Loc nD τ sig) → Buf (Elt Ideal) ℓ) (c : Dev nD)

/-- What the first point of a run leaves. -/
theorem point_first (t : Fin cfg0.N) (h0 : t.val % 11 = 0) :
    (outsAt0 m c t.val t.isLt).2 = k0_pay1 (iblk m c 0 t) (iblk m c 1 t)
    ∧ (outsAt0 m c t.val t.isLt).1 = k0_pay2 (k0_pay1 (F := Ideal) (iblk m c 0 t) (iblk m c 1 t)) (iblk m c 2 t) := by
  have h := outsAt0_A m c t h0
  refine ⟨?_, ?_⟩
  all_goals rw [h]
  · funext y
    frame_open
    frame_out
  · funext y
    frame_open
    frame_out

/-- What a later point leaves. -/
theorem point_next (t : Fin cfg0.N) (h0 : ¬t.val % 11 = 0) :
    (outsAt0 m c t.val t.isLt).2 = (outsAt0 m c (t.val - 1) (Nat.lt_of_le_of_lt (Nat.sub_le _ _) t.isLt)).2
    ∧ (outsAt0 m c t.val t.isLt).1
      = k0_pay2 (outsAt0 m c (t.val - 1) (Nat.lt_of_le_of_lt (Nat.sub_le _ _) t.isLt)).2 (iblk m c 2 t) := by
  have h := outsAt0_B m c t h0
  refine ⟨?_, ?_⟩
  all_goals rw [h]
  · rfl
  · funext y
    frame_open
    frame_out
    simp only [read_unread_whole]

end Proj

end
-- ==== Proof.Columns.lean ====
module

public import Idealize.ShloMosaic.Lib.Pipeline.ValueKit

@[expose] public section

/-! # The order of the projection's columns

The kernel's projection holds the pieces of a row in an order of its own, with 224 zeros before the gates. -/

open Idealize Idealize.ShloMosaic

noncomputable section

namespace Proj

/-- A row of 11040 entries in the kernel's order. -/
def laid (f : Fin 11040 → EReal) (n : Fin 11264) : EReal :=
  if h : n.val < 1536 then f ⟨5408 + n.val, by omega⟩
  else if h : n.val - 1536 < 2304 then f ⟨1568 + (n.val - 1536), by omega⟩
  else if h : n.val - 1536 - 2304 < 256 then f ⟨n.val - 1536 - 2304, by omega⟩
  else if h : n.val - 1536 - 2304 - 256 < 1536 then f ⟨3872 + (n.val - 1536 - 2304 - 256), by omega⟩
  else if h : n.val - 1536 - 2304 - 256 - 1536 < 512 then f ⟨512 + (n.val - 1536 - 2304 - 256 - 1536), by omega⟩
  else if h : n.val - 1536 - 2304 - 256 - 1536 - 512 < 512 then f ⟨1024 + (n.val - 1536 - 2304 - 256 - 1536 - 512), by omega⟩
  else if h : n.val - 1536 - 2304 - 256 - 1536 - 512 - 512 < 256 then
    f ⟨256 + (n.val - 1536 - 2304 - 256 - 1536 - 512 - 512), by omega⟩
  else if h : n.val - 1536 - 2304 - 256 - 1536 - 512 - 512 - 256 < 32 then
    f ⟨1536 + (n.val - 1536 - 2304 - 256 - 1536 - 512 - 512 - 256), by omega⟩
  else if h : n.val - 1536 - 2304 - 256 - 1536 - 512 - 512 - 256 - 32 < 224 then 0
  else f ⟨6944 + (n.val - 1536 - 2304 - 256 - 1536 - 512 - 512 - 256 - 32 - 224), by omega⟩

/-- What reads one entry of a row, the same for every row, or is zero. -/
def Reads (F : (Fin 11040 → EReal) → EReal) : Prop := (∃ k, ∀ f, F f = f k) ∨ ∀ f, F f = 0

/-- A choice that does not look at the row reads what its branches read. -/
theorem reads_dite {p : Prop} [Decidable p] {a : p → (Fin 11040 → EReal) → EReal} {b : ¬p → (Fin 11040 → EReal) → EReal}
    (ha : ∀ h, Reads (a h)) (hb : ∀ h, Reads (b h)) : Reads fun f => if h : p then a h f else b h f := by
  by_cases h : p
  · simpa only [dif_pos h] using ha h
  · simpa only [dif_neg h] using hb h

/-- Every column is one of the row's entries, or a zero. -/
theorem laid_reads (n : Fin 11264) : Reads fun f => laid f n := by
  unfold laid
  repeat' refine reads_dite (fun _ => ?_) fun _ => ?_
  all_goals first
    | exact Or.inl ⟨_, fun _ => rfl⟩
    | exact Or.inr fun _ => rfl

/-- Laying out the columns of a product lays out the products. -/
theorem laid_mul (h : Fin 1024 → EReal) (w : Fin 1024 → Fin 11040 → EReal) (n : Fin 11264) :
    ∑ d, h d * laid (w d) n = laid (fun k => ∑ d, h d * w d k) n := by
  rcases laid_reads n with ⟨k, hk⟩ | h0
  · simp only [hk]
  · simp only [h0, mul_zero, Finset.sum_const_zero]

end Proj

end
-- ==== Proof.ProjEntry.lean ====
module

public import proofs.«01_k».proof.Proof.ProjPoint
public import proofs.«01_k».proof.Proof.Columns
public import Idealize.ShloMosaic.Lib.StableHlo.ReadAt

@[expose] public section

/-! # The input projection: what each point is handed -/

set_option maxRecDepth 16384
set_option maxHeartbeats 2000000

open Idealize Idealize.ShloMosaic Idealize.ShloMosaic.TcCoe
open Cert.Kernel3Ideal Cert.Kernel3Ideal.Gen

noncomputable section

namespace Proj

variable (m : (ℓ : Loc nD τ sig) → Buf (Elt Ideal) ℓ) (c : Dev nD)

/-- The weights in the kernel's order of columns. -/
theorem host_w (d : Fin 1024) (n : Fin 11264) : V m c main_v11 (ix2 d n)
    = laid (fun k => m ((c : Thread nD τ).loc main_arg2) (ix2 d k)) n := by
  simp only [V, hostOps0]
  after_reads_at
  unfold laid
  iterate 9 refine dite_congr rfl (fun _ => by after_reads_at) fun _ => ?_
  after_reads_at

theorem host_g (d : Fin 1024) : V m c main_v12 (ix2 0 d) = m ((c : Thread nD τ).loc main_arg1) (ix1 d) := by
  simp only [V, hostOps0]
  after_reads_at
  try rfl

/-- Which block each window takes at a grid point. -/
theorem idx : ∀ t : Fin cfg0.N,
    win0_0.index t = ![t.val / 11, 0] ∧ win0_1.index t = ![0, 0] ∧ win0_2.index t = ![0, t.val % 11]
    ∧ win0_3.index t = ![t.val / 11, t.val % 11] := by decide +kernel

theorem t_lt (t : Fin cfg0.N) : t.val < 88 := t.isLt

/-- The row of the arrays that row `r` of a point's block is. -/
abbrev row (t : Fin cfg0.N) (r : Fin 2048) : Fin 16384 := ⟨2048 * (t.val / 11) + r.val, by have := t_lt t; omega⟩

/-- The column of the result that column `n` of a point's block is. -/
abbrev col (t : Fin cfg0.N) (n : Fin 1024) : Fin 11264 := ⟨1024 * (t.val % 11) + n.val, by omega⟩

theorem blk_x (t : Fin cfg0.N) (r : Fin 2048) (d : Fin 1024) : iblk m c 0 t (ix2 r d)
    = m ((c : Thread nD τ).loc main_arg0) (ix2 (row t r) d) := by
  have := t_lt t
  rw [← V_main_arg0 m c]
  blk_ext [iblk, V, idx t]

theorem blk_g (t : Fin cfg0.N) (d : Fin 1024) : iblk m c 1 t (ix2 0 d) = m ((c : Thread nD τ).loc main_arg1) (ix1 d) := by
  rw [← host_g m c]
  blk_ext [iblk, V, idx t]

theorem blk_w (t : Fin cfg0.N) (d n : Fin 1024) : iblk m c 2 t (ix2 d n) = V m c main_v11 (ix2 d (col t n)) := by
  blk_ext [iblk, V, idx t]

end Proj

end
-- ==== Proof.ProjResult.lean ====
module

public import proofs.«01_k».proof.Proof.ProjEntry
public import proofs.«01_k».proof.Proof.MlpResult
public import proofs.«01_k».proof.Proof.Gen.Reference3Ideal.Read

@[expose] public section

/-! # The input projection: the array the launch leaves is the reference's result -/

set_option maxRecDepth 16384
set_option maxHeartbeats 2000000

open Idealize Idealize.ShloMosaic Idealize.ShloMosaic.TcCoe Idealize.SL.Sem
open Cert.Kernel3Ideal Cert.Kernel3Ideal.Gen

noncomputable section

namespace Proj

/-- The product of the normed row `r` with the column `k` of the weights. -/
def prod (x : (⟨2, ![16384, 1024]⟩ : Shape).Idx → EReal) (g : (⟨1, ![1024]⟩ : Shape).Idx → EReal)
    (w : (⟨2, ![1024, 11040]⟩ : Shape).Idx → EReal) (r : Fin 16384) (k : Fin 11040) : EReal :=
  ∑ d, Rows.normed (fun k => x (ix2 r k)) (fun k => g (ix1 k)) d * w (ix2 d k)

section Reference

open Cert.Reference3Ideal.Read

/-- The reference's normed rows. -/
theorem ref_norm (x : (⟨2, ![16384, 1024]⟩ : Shape).Idx → EReal) (g : (⟨1, ![1024]⟩ : Shape).Idx → EReal)
    (r : Fin 16384) (d : Fin 1024) :
    val_main_v12 (F := Ideal) x g (ix2 r d) = Rows.normed (fun k => x (ix2 r k)) (fun k => g (ix1 k)) d := by
  exact Mlp.ref_norm x g r d

/-- The reference's products. -/
theorem ref_prod (x : (⟨2, ![16384, 1024]⟩ : Shape).Idx → EReal) (g : (⟨1, ![1024]⟩ : Shape).Idx → EReal)
    (w : (⟨2, ![1024, 11040]⟩ : Shape).Idx → EReal) (r : Fin 16384) (k : Fin 11040) :
    val_main_v13 (F := Ideal) x g w (ix2 r k) = prod x g w r k := by
  rw [val_main_v13_apply]
  refine Finset.sum_congr rfl fun d _ => ?_
  have hl : lidx_main_v13 (ix2 r k) d = ix2 r d := funext fun z => match z with
    | ⟨0, _⟩ => rfl
    | ⟨1, _⟩ => rfl
  have hr : ridx_main_v13 (ix2 r k) d = ix2 d k := funext fun z => match z with
    | ⟨0, _⟩ => rfl
    | ⟨1, _⟩ => rfl
  rw [hl, hr, ref_norm]

/-- The reference's result. -/
theorem ref_value (x : (⟨2, ![16384, 1024]⟩ : Shape).Idx → EReal) (g : (⟨1, ![1024]⟩ : Shape).Idx → EReal)
    (w : (⟨2, ![1024, 11040]⟩ : Shape).Idx → EReal) (r : Fin 16384) (n : Fin 11264) :
    val_main_v25 (F := Ideal) x g w (ix2 r n) = laid (prod x g w r) n := by
  have hp : prod x g w r = fun k => val_main_v13 (F := Ideal) x g w (ix2 r k) := funext fun k => (ref_prod x g w r k).symm
  rw [hp, val_main_v25_apply]
  unfold val_main_v24 val_main_v21 val_main_v19 val_main_v14 val_main_v20 val_main_v16 val_main_v17 val_main_v15 val_main_v18
    val_main_v23 val_main_v22 val_main_cst_2
  generalize val_main_v13 (F := Ideal) x g w = y
  pointwise [laid, Rows.ofBits_zero]

end Reference

variable (m : (ℓ : Loc nD τ sig) → Buf (Elt Ideal) ℓ) (c : Dev nD)

/-- The reference's result, of the kernel's arguments. -/
def wanted : (⟨2, ![16384, 11264]⟩ : Shape).Idx → EReal :=
  Cert.Reference3Ideal.Read.val_main_v25 (F := Ideal) (m ((c : Thread nD τ).loc main_arg0)) (m ((c : Thread nD τ).loc main_arg1))
    (m ((c : Thread nD τ).loc main_arg2))

/-- The scratch holds the normed rows at every point of a run. -/
theorem kept : ∀ n (hn : n < cfg0.N) (r : Fin 2048) (d : Fin 1024), (outsAt0 m c n hn).2 (ix2 r d)
    = Rows.normed (fun k => m ((c : Thread nD τ).loc main_arg0) (ix2 (row ⟨n, hn⟩ r) k))
        (fun k => m ((c : Thread nD τ).loc main_arg1) (ix1 k)) d := by
  intro n
  induction n with
  | zero =>
    intro hn r d
    rw [(point_first m c ⟨0, hn⟩ rfl).1, pay_norm]
    simp only [blk_x, blk_g]
  | succ n ih =>
    intro hn r d
    by_cases h0 : (n + 1) % 11 = 0
    · rw [(point_first m c ⟨n + 1, hn⟩ h0).1, pay_norm]
      simp only [blk_x, blk_g]
    · rw [(point_next m c ⟨n + 1, hn⟩ h0).1]
      have hrow : row ⟨n, Nat.lt_of_succ_lt hn⟩ r = row ⟨n + 1, hn⟩ r :=
        Fin.ext (by show 2048 * (n / 11) + r.val = 2048 * ((n + 1) / 11) + r.val; omega)
      exact (ih (Nat.lt_of_succ_lt hn) r d).trans (by rw [hrow])

/-- The block a point leaves, entry by entry. -/
theorem block (t : Fin cfg0.N) (r : Fin 2048) (n : Fin 1024) :
    (outsAt0 m c t.val t.isLt).1 (ix2 r n) = wanted m c (ix2 (row t r) (col t n)) := by
  have hv : (outsAt0 m c t.val t.isLt).1 = k0_pay2 (outsAt0 m c t.val t.isLt).2 (iblk m c 2 t) := by
    by_cases h0 : t.val % 11 = 0
    · rw [(point_first m c t h0).1, (point_first m c t h0).2]
    · rw [(point_next m c t h0).1, (point_next m c t h0).2]
  rw [hv, pay_mul, wanted, ref_value]
  simp only [kept, blk_w]
  exact (Finset.sum_congr rfl fun d _ => congrArg (_ * ·) (host_w m c d (col t n))).trans (laid_mul _ _ _)

/-- The array after the run. -/
theorem array : (dats m 0 c).arrAt 3 cfg0.N = wanted m c := by
  refine (dats m 0 c).arrAt_eq_of_covers 3 _ (by decide +kernel) fun t hf y => ?_
  blk_simp
  rw [after0_3]
  have e : y = ix2 (y 0) (y 1) := funext fun z => match z with
    | ⟨0, _⟩ => rfl
    | ⟨1, _⟩ => rfl
  refine Eq.trans ?_ ((block m c t (y 0) (y 1)).trans ?_)
  · exact congrArg (outsAt0 m c t.val t.isLt).1 e
  · refine congrArg (wanted m c) (funext fun z => ?_)
    match z with
    | ⟨0, _⟩ =>
      refine Fin.ext ?_
      blk_simp [idx t]
      exact congrArg₂ (· + ·) (Nat.mul_comm _ _) rfl
    | ⟨1, _⟩ =>
      refine Fin.ext ?_
      blk_simp [idx t]
      exact congrArg₂ (· + ·) (Nat.mul_comm _ _) rfl

end Proj

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Result
public import proofs.«01_k».proof.Proof.MlpResult
public import proofs.«01_k».proof.Proof.ProjResult
public import Idealize.ShloMosaic.Adequacy
public import Idealize.ShloMosaic.Init
public import Idealize.ShloMosaic.Lib.Quiescent

@[expose] public section

/-! # The claims -/

set_option maxRecDepth 16384

noncomputable section

namespace Cert.Proof

open Idealize.ShloMosaic Idealize.SL.Sem

/-- The reference runs, keeps its arguments and counts nothing. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Kernel

open Cert.KernelIdeal Cert.KernelIdeal.Gen Idealize.ShloMosaic.TcCoe

/-- The kernel's run: its result array is what its last blocks leave, and its arguments are kept. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v61) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨(h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Kernel

/-- With real arguments the two leave equal results. -/
theorem equal_results : algebraic_KernelIdeal_ReferenceIdeal_pre_finite := by
  intro m ρ m' ρ' hpre hagree
  refine ⟨_, kernel_run m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5⟩ := hagree c
  refine ((h c).1.trans (Cert.ReferenceIdeal.Read.val_main_v99_eq (F := Ideal) (StableHlo.launchContents m' c))).trans ?_
  refine Eq.trans ?_ (Attn.array (hpre c)).symm
  unfold Attn.wanted
  rw [← e0, ← e1, ← e2, ← e3, ← e4, ← e5]

/-- The feed-forward part's reference runs, keeps its arguments and counts nothing. -/
theorem mlp_quiescent : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward part and its reference leave equal results. -/
theorem mlp_equal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  obtain ⟨e0, e1, e2, e3⟩ := hagree c
  refine ((h c).1.trans (Cert.Reference2Ideal.Read.val_main_v17_eq (F := Ideal) _ _ _ _)).trans ?_
  refine Eq.trans ?_ ((Mlp.array m c).symm.trans (Cert.Kernel2Ideal.Value.final4 m c))
  unfold Mlp.wanted
  rw [← e0, ← e1, ← e2, ← e3]

/-- The input projection's reference runs, keeps its arguments and counts nothing. -/
theorem proj_quiescent : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection and its reference leave equal results. -/
theorem proj_equal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  obtain ⟨e0, e1, e2⟩ := hagree c
  refine ((h c).1.trans (Cert.Reference3Ideal.Read.val_main_v25_eq (F := Ideal) m' c)).trans ?_
  refine Eq.trans ?_ ((Proj.array m c).symm.trans (Cert.Kernel3Ideal.Value.final3 m c))
  unfold Proj.wanted
  rw [← e0, ← e1, ← e2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_quiescent, fun m ρ _ => reference_quiescent m ρ trivial,
  fun m ρ _ => Cert.Kernel2.Gen.frame m ρ, fun m ρ _ => Cert.Kernel2Ideal.Gen.frame m ρ, mlp_quiescent,
  fun m ρ _ => Cert.Kernel3.Gen.frame m ρ, fun m ρ _ => Cert.Kernel3Ideal.Gen.frame m ρ, proj_quiescent,
  trivial, equal_results, trivial, mlp_equal, trivial, proj_equal⟩

end Cert.Proof

end
